-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![2048, 256]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S224x256 : Shape := ⟨2, ![224, 256]⟩
abbrev S7 : Shape := ⟨1, ![7]⟩
abbrev S_ : Shape := ⟨0, ![]⟩
abbrev S1 : Shape := ⟨1, ![1]⟩
abbrev S32x256 : Shape := ⟨2, ![32, 256]⟩

abbrev nBuf : Space → Nat
  | .hbm => 2
  | .vmem => 5
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .bf16⟩
  | .local _ .vmem, ⟨3, _⟩ => ⟨S224x256, .bf16⟩
  | .local _ .vmem, ⟨4, _⟩ => ⟨S224x256, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_228 : BitVec 32 := 0#32
  let c4_i32_41 : BitVec 32 := 4#32
  let c1_i32_40 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v96 : BitVec 32 := Scalar.subi c1_i32_40 v19
  let v97 : BitVec 32 := Scalar.muli c4_i32_41 v96
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_33 : BitVec 32 := 2#32
  let v85 : BitVec 32 := Scalar.addi v29 c2_i32_33
  let c4_i32_34 : BitVec 32 := 4#32
  let c0_i32_35 : BitVec 32 := 0#32
  let v86 : BitVec 1 := Scalar.cmpi .eq c4_i32_34 c0_i32_35
  let c1_i32_36 : BitVec 32 := 1#32
  let v87 : BitVec 32 := Scalar.select v86 c1_i32_36 c4_i32_34
  let v88 : BitVec 32 := Scalar.remsi v85 v87
  let c0_i32_38 : BitVec 32 := 0#32
  let v90 : BitVec 1 := Scalar.cmpi .slt v88 c0_i32_38
  let c0_i32_39 : BitVec 32 := 0#32
  let v91 : BitVec 1 := Scalar.cmpi .slt v87 c0_i32_39
  let v92 : BitVec 1 := Scalar.xori v90 v91
  let c0_i32_37 : BitVec 32 := 0#32
  let v89 : BitVec 1 := Scalar.cmpi .ne v88 c0_i32_37
  let v93 : BitVec 1 := Scalar.andi v92 v89
  let v94 : BitVec 32 := Scalar.addi v88 v87
  let v95 : BitVec 32 := Scalar.select v93 v94 v88
  let v98 : BitVec 32 := Scalar.addi v97 v95
  let c1_i32_227 : BitVec 32 := 1#32
  let v486 : BitVec 32 := Scalar.muli v98 c1_i32_227
  let v487 : BitVec 32 := Scalar.addi c0_i32_228 v486
  v487.toNat
def k0_dev2 (d0 : Dev nD) : Nat :=
  let c0_i32_231 : BitVec 32 := 0#32
  let c4_i32_43 : BitVec 32 := 4#32
  let c1_i32_42 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v99 : BitVec 32 := Scalar.subi c1_i32_42 v19
  let v100 : BitVec 32 := Scalar.muli c4_i32_43 v99
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_32 : BitVec 32 := 1#32
  let v83 : BitVec 32 := Scalar.xori v29 c1_i32_32
  let v101 : BitVec 32 := Scalar.addi v100 v83
  let c1_i32_230 : BitVec 32 := 1#32
  let v488 : BitVec 32 := Scalar.muli v101 c1_i32_230
  let v489 : BitVec 32 := Scalar.addi c0_i32_231 v488
  v489.toNat
def k0_dev3 (d0 : Dev nD) : Nat :=
  let c0_i32_234 : BitVec 32 := 0#32
  let c4_i32_45 : BitVec 32 := 4#32
  let c1_i32_44 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v102 : BitVec 32 := Scalar.subi c1_i32_44 v19
  let v103 : BitVec 32 := Scalar.muli c4_i32_45 v102
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v84 : BitVec 32 := Scalar.subi c3_i32 v29
  let v104 : BitVec 32 := Scalar.addi v103 v84
  let c1_i32_233 : BitVec 32 := 1#32
  let v490 : BitVec 32 := Scalar.muli v104 c1_i32_233
  let v491 : BitVec 32 := Scalar.addi c0_i32_234 v490
  v491.toNat
def k0_dev4 (d0 : Dev nD) : Nat :=
  let c0_i32_237 : BitVec 32 := 0#32
  let c4_i32_46 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v105 : BitVec 32 := Scalar.muli c4_i32_46 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_33 : BitVec 32 := 2#32
  let v85 : BitVec 32 := Scalar.addi v29 c2_i32_33
  let c4_i32_34 : BitVec 32 := 4#32
  let c0_i32_35 : BitVec 32 := 0#32
  let v86 : BitVec 1 := Scalar.cmpi .eq c4_i32_34 c0_i32_35
  let c1_i32_36 : BitVec 32 := 1#32
  let v87 : BitVec 32 := Scalar.select v86 c1_i32_36 c4_i32_34
  let v88 : BitVec 32 := Scalar.remsi v85 v87
  let c0_i32_38 : BitVec 32 := 0#32
  let v90 : BitVec 1 := Scalar.cmpi .slt v88 c0_i32_38
  let c0_i32_39 : BitVec 32 := 0#32
  let v91 : BitVec 1 := Scalar.cmpi .slt v87 c0_i32_39
  let v92 : BitVec 1 := Scalar.xori v90 v91
  let c0_i32_37 : BitVec 32 := 0#32
  let v89 : BitVec 1 := Scalar.cmpi .ne v88 c0_i32_37
  let v93 : BitVec 1 := Scalar.andi v92 v89
  let v94 : BitVec 32 := Scalar.addi v88 v87
  let v95 : BitVec 32 := Scalar.select v93 v94 v88
  let v106 : BitVec 32 := Scalar.addi v105 v95
  let c1_i32_236 : BitVec 32 := 1#32
  let v492 : BitVec 32 := Scalar.muli v106 c1_i32_236
  let v493 : BitVec 32 := Scalar.addi c0_i32_237 v492
  v493.toNat
def k0_dev5 (d0 : Dev nD) : Nat :=
  let c0_i32_240 : BitVec 32 := 0#32
  let c4_i32_47 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v107 : BitVec 32 := Scalar.muli c4_i32_47 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_32 : BitVec 32 := 1#32
  let v83 : BitVec 32 := Scalar.xori v29 c1_i32_32
  let v108 : BitVec 32 := Scalar.addi v107 v83
  let c1_i32_239 : BitVec 32 := 1#32
  let v494 : BitVec 32 := Scalar.muli v108 c1_i32_239
  let v495 : BitVec 32 := Scalar.addi c0_i32_240 v494
  v495.toNat
def k0_dev6 (d0 : Dev nD) : Nat :=
  let c0_i32_243 : BitVec 32 := 0#32
  let c4_i32_48 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v109 : BitVec 32 := Scalar.muli c4_i32_48 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v84 : BitVec 32 := Scalar.subi c3_i32 v29
  let v110 : BitVec 32 := Scalar.addi v109 v84
  let c1_i32_242 : BitVec 32 := 1#32
  let v496 : BitVec 32 := Scalar.muli v110 c1_i32_242
  let v497 : BitVec 32 := Scalar.addi c0_i32_243 v496
  v497.toNat
def k0_dev7 (d0 : Dev nD) : Nat :=
  let c0_i32_246 : BitVec 32 := 0#32
  let c4_i32_50 : BitVec 32 := 4#32
  let c1_i32_49 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v111 : BitVec 32 := Scalar.subi c1_i32_49 v19
  let v112 : BitVec 32 := Scalar.muli c4_i32_50 v111
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v113 : BitVec 32 := Scalar.addi v112 v29
  let c1_i32_245 : BitVec 32 := 1#32
  let v498 : BitVec 32 := Scalar.muli v113 c1_i32_245
  let v499 : BitVec 32 := Scalar.addi c0_i32_246 v498
  v499.toNat
def k0_off1 (d0 : Dev nD) : Fin 2 → Nat :=
  let c4_i32_41 : BitVec 32 := 4#32
  let c1_i32_40 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v96 : BitVec 32 := Scalar.subi c1_i32_40 v19
  let v97 : BitVec 32 := Scalar.muli c4_i32_41 v96
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_33 : BitVec 32 := 2#32
  let v85 : BitVec 32 := Scalar.addi v29 c2_i32_33
  let c4_i32_34 : BitVec 32 := 4#32
  let c0_i32_35 : BitVec 32 := 0#32
  let v86 : BitVec 1 := Scalar.cmpi .eq c4_i32_34 c0_i32_35
  let c1_i32_36 : BitVec 32 := 1#32
  let v87 : BitVec 32 := Scalar.select v86 c1_i32_36 c4_i32_34
  let v88 : BitVec 32 := Scalar.remsi v85 v87
  let c0_i32_38 : BitVec 32 := 0#32
  let v90 : BitVec 1 := Scalar.cmpi .slt v88 c0_i32_38
  let c0_i32_39 : BitVec 32 := 0#32
  let v91 : BitVec 1 := Scalar.cmpi .slt v87 c0_i32_39
  let v92 : BitVec 1 := Scalar.xori v90 v91
  let c0_i32_37 : BitVec 32 := 0#32
  let v89 : BitVec 1 := Scalar.cmpi .ne v88 c0_i32_37
  let v93 : BitVec 1 := Scalar.andi v92 v89
  let v94 : BitVec 32 := Scalar.addi v88 v87
  let v95 : BitVec 32 := Scalar.select v93 v94 v88
  let v98 : BitVec 32 := Scalar.addi v97 v95
  let c0_i32_52 : BitVec 32 := 0#32
  let v115 : BitVec 1 := Scalar.cmpi .sgt v98 c0_i32_52
  let v116 : BitVec 32 := Scalar.extui v115
  let c0_i32_53 : BitVec 32 := 0#32
  let v117 : BitVec 1 := Scalar.cmpi .slt v98 c0_i32_53
  let v118 : BitVec 32 := Scalar.extui v117
  let v119 : BitVec 32 := Scalar.subi v116 v118
  let c4_i32_51 : BitVec 32 := 4#32
  let c0_i32_54 : BitVec 32 := 0#32
  let v120 : BitVec 1 := Scalar.cmpi .sgt c4_i32_51 c0_i32_54
  let v121 : BitVec 32 := Scalar.extui v120
  let c0_i32_55 : BitVec 32 := 0#32
  let v122 : BitVec 1 := Scalar.cmpi .slt c4_i32_51 c0_i32_55
  let v123 : BitVec 32 := Scalar.extui v122
  let v124 : BitVec 32 := Scalar.subi v121 v123
  let v125 : BitVec 1 := Scalar.cmpi .ne v119 v124
  let v126 : BitVec 32 := Scalar.remsi v98 c4_i32_51
  let c0_i32_56 : BitVec 32 := 0#32
  let v127 : BitVec 1 := Scalar.cmpi .ne v126 c0_i32_56
  let v128 : BitVec 1 := Scalar.andi v125 v127
  let v114 : BitVec 32 := Scalar.divsi v98 c4_i32_51
  let c1_i32_57 : BitVec 32 := 1#32
  let v129 : BitVec 32 := Scalar.subi v114 c1_i32_57
  let v130 : BitVec 32 := Scalar.select v128 v129 v114
  let c128_i32_73 : BitVec 32 := 128#32
  let v162 : BitVec 32 := Scalar.muli v130 c128_i32_73
  let c4_i32_58 : BitVec 32 := 4#32
  let c0_i32_59 : BitVec 32 := 0#32
  let v131 : BitVec 1 := Scalar.cmpi .eq c4_i32_58 c0_i32_59
  let c1_i32_60 : BitVec 32 := 1#32
  let v132 : BitVec 32 := Scalar.select v131 c1_i32_60 c4_i32_58
  let v133 : BitVec 32 := Scalar.remsi v98 v132
  let c0_i32_62 : BitVec 32 := 0#32
  let v135 : BitVec 1 := Scalar.cmpi .slt v133 c0_i32_62
  let c0_i32_63 : BitVec 32 := 0#32
  let v136 : BitVec 1 := Scalar.cmpi .slt v132 c0_i32_63
  let v137 : BitVec 1 := Scalar.xori v135 v136
  let c0_i32_61 : BitVec 32 := 0#32
  let v134 : BitVec 1 := Scalar.cmpi .ne v133 c0_i32_61
  let v138 : BitVec 1 := Scalar.andi v137 v134
  let v139 : BitVec 32 := Scalar.addi v133 v132
  let v140 : BitVec 32 := Scalar.select v138 v139 v133
  let c0_i32_65 : BitVec 32 := 0#32
  let v142 : BitVec 1 := Scalar.cmpi .sgt v140 c0_i32_65
  let v143 : BitVec 32 := Scalar.extui v142
  let c0_i32_66 : BitVec 32 := 0#32
  let v144 : BitVec 1 := Scalar.cmpi .slt v140 c0_i32_66
  let v145 : BitVec 32 := Scalar.extui v144
  let v146 : BitVec 32 := Scalar.subi v143 v145
  let c2_i32_64 : BitVec 32 := 2#32
  let c0_i32_67 : BitVec 32 := 0#32
  let v147 : BitVec 1 := Scalar.cmpi .sgt c2_i32_64 c0_i32_67
  let v148 : BitVec 32 := Scalar.extui v147
  let c0_i32_68 : BitVec 32 := 0#32
  let v149 : BitVec 1 := Scalar.cmpi .slt c2_i32_64 c0_i32_68
  let v150 : BitVec 32 := Scalar.extui v149
  let v151 : BitVec 32 := Scalar.subi v148 v150
  let v152 : BitVec 1 := Scalar.cmpi .ne v146 v151
  let v153 : BitVec 32 := Scalar.remsi v140 c2_i32_64
  let c0_i32_69 : BitVec 32 := 0#32
  let v154 : BitVec 1 := Scalar.cmpi .ne v153 c0_i32_69
  let v155 : BitVec 1 := Scalar.andi v152 v154
  let v141 : BitVec 32 := Scalar.divsi v140 c2_i32_64
  let c1_i32_70 : BitVec 32 := 1#32
  let v156 : BitVec 32 := Scalar.subi v141 c1_i32_70
  let v157 : BitVec 32 := Scalar.select v155 v156 v141
  let c64_i32_74 : BitVec 32 := 64#32
  let v163 : BitVec 32 := Scalar.muli v157 c64_i32_74
  let v164 : BitVec 32 := Scalar.addi v162 v163
  let c1_i32_71 : BitVec 32 := 1#32
  let v158 : BitVec 1 := Scalar.cmpi .eq v140 c1_i32_71
  let c2_i32_72 : BitVec 32 := 2#32
  let v159 : BitVec 1 := Scalar.cmpi .eq v140 c2_i32_72
  let v160 : BitVec 1 := Scalar.ori v158 v159
  let v161 : BitVec 32 := Scalar.extui v160
  let c32_i32_75 : BitVec 32 := 32#32
  let v165 : BitVec 32 := Scalar.muli v161 c32_i32_75
  let v166 : BitVec 32 := Scalar.addi v164 v165
  let c0_i32_256 : BitVec 32 := 0#32
  ![v166.toNat, 0]
def k0_dev8 (d0 : Dev nD) : Nat :=
  let c0_i32_253 : BitVec 32 := 0#32
  let c4_i32_41 : BitVec 32 := 4#32
  let c1_i32_40 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v96 : BitVec 32 := Scalar.subi c1_i32_40 v19
  let v97 : BitVec 32 := Scalar.muli c4_i32_41 v96
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_33 : BitVec 32 := 2#32
  let v85 : BitVec 32 := Scalar.addi v29 c2_i32_33
  let c4_i32_34 : BitVec 32 := 4#32
  let c0_i32_35 : BitVec 32 := 0#32
  let v86 : BitVec 1 := Scalar.cmpi .eq c4_i32_34 c0_i32_35
  let c1_i32_36 : BitVec 32 := 1#32
  let v87 : BitVec 32 := Scalar.select v86 c1_i32_36 c4_i32_34
  let v88 : BitVec 32 := Scalar.remsi v85 v87
  let c0_i32_38 : BitVec 32 := 0#32
  let v90 : BitVec 1 := Scalar.cmpi .slt v88 c0_i32_38
  let c0_i32_39 : BitVec 32 := 0#32
  let v91 : BitVec 1 := Scalar.cmpi .slt v87 c0_i32_39
  let v92 : BitVec 1 := Scalar.xori v90 v91
  let c0_i32_37 : BitVec 32 := 0#32
  let v89 : BitVec 1 := Scalar.cmpi .ne v88 c0_i32_37
  let v93 : BitVec 1 := Scalar.andi v92 v89
  let v94 : BitVec 32 := Scalar.addi v88 v87
  let v95 : BitVec 32 := Scalar.select v93 v94 v88
  let v98 : BitVec 32 := Scalar.addi v97 v95
  let c1_i32_252 : BitVec 32 := 1#32
  let v506 : BitVec 32 := Scalar.muli v98 c1_i32_252
  let v507 : BitVec 32 := Scalar.addi c0_i32_253 v506
  v507.toNat
def k0_off2 (d0 : Dev nD) : Fin 2 → Nat :=
  let c4_i32_43 : BitVec 32 := 4#32
  let c1_i32_42 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v99 : BitVec 32 := Scalar.subi c1_i32_42 v19
  let v100 : BitVec 32 := Scalar.muli c4_i32_43 v99
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_32 : BitVec 32 := 1#32
  let v83 : BitVec 32 := Scalar.xori v29 c1_i32_32
  let v101 : BitVec 32 := Scalar.addi v100 v83
  let c0_i32_77 : BitVec 32 := 0#32
  let v168 : BitVec 1 := Scalar.cmpi .sgt v101 c0_i32_77
  let v169 : BitVec 32 := Scalar.extui v168
  let c0_i32_78 : BitVec 32 := 0#32
  let v170 : BitVec 1 := Scalar.cmpi .slt v101 c0_i32_78
  let v171 : BitVec 32 := Scalar.extui v170
  let v172 : BitVec 32 := Scalar.subi v169 v171
  let c4_i32_76 : BitVec 32 := 4#32
  let c0_i32_79 : BitVec 32 := 0#32
  let v173 : BitVec 1 := Scalar.cmpi .sgt c4_i32_76 c0_i32_79
  let v174 : BitVec 32 := Scalar.extui v173
  let c0_i32_80 : BitVec 32 := 0#32
  let v175 : BitVec 1 := Scalar.cmpi .slt c4_i32_76 c0_i32_80
  let v176 : BitVec 32 := Scalar.extui v175
  let v177 : BitVec 32 := Scalar.subi v174 v176
  let v178 : BitVec 1 := Scalar.cmpi .ne v172 v177
  let v179 : BitVec 32 := Scalar.remsi v101 c4_i32_76
  let c0_i32_81 : BitVec 32 := 0#32
  let v180 : BitVec 1 := Scalar.cmpi .ne v179 c0_i32_81
  let v181 : BitVec 1 := Scalar.andi v178 v180
  let v167 : BitVec 32 := Scalar.divsi v101 c4_i32_76
  let c1_i32_82 : BitVec 32 := 1#32
  let v182 : BitVec 32 := Scalar.subi v167 c1_i32_82
  let v183 : BitVec 32 := Scalar.select v181 v182 v167
  let c128_i32_98 : BitVec 32 := 128#32
  let v215 : BitVec 32 := Scalar.muli v183 c128_i32_98
  let c4_i32_83 : BitVec 32 := 4#32
  let c0_i32_84 : BitVec 32 := 0#32
  let v184 : BitVec 1 := Scalar.cmpi .eq c4_i32_83 c0_i32_84
  let c1_i32_85 : BitVec 32 := 1#32
  let v185 : BitVec 32 := Scalar.select v184 c1_i32_85 c4_i32_83
  let v186 : BitVec 32 := Scalar.remsi v101 v185
  let c0_i32_87 : BitVec 32 := 0#32
  let v188 : BitVec 1 := Scalar.cmpi .slt v186 c0_i32_87
  let c0_i32_88 : BitVec 32 := 0#32
  let v189 : BitVec 1 := Scalar.cmpi .slt v185 c0_i32_88
  let v190 : BitVec 1 := Scalar.xori v188 v189
  let c0_i32_86 : BitVec 32 := 0#32
  let v187 : BitVec 1 := Scalar.cmpi .ne v186 c0_i32_86
  let v191 : BitVec 1 := Scalar.andi v190 v187
  let v192 : BitVec 32 := Scalar.addi v186 v185
  let v193 : BitVec 32 := Scalar.select v191 v192 v186
  let c0_i32_90 : BitVec 32 := 0#32
  let v195 : BitVec 1 := Scalar.cmpi .sgt v193 c0_i32_90
  let v196 : BitVec 32 := Scalar.extui v195
  let c0_i32_91 : BitVec 32 := 0#32
  let v197 : BitVec 1 := Scalar.cmpi .slt v193 c0_i32_91
  let v198 : BitVec 32 := Scalar.extui v197
  let v199 : BitVec 32 := Scalar.subi v196 v198
  let c2_i32_89 : BitVec 32 := 2#32
  let c0_i32_92 : BitVec 32 := 0#32
  let v200 : BitVec 1 := Scalar.cmpi .sgt c2_i32_89 c0_i32_92
  let v201 : BitVec 32 := Scalar.extui v200
  let c0_i32_93 : BitVec 32 := 0#32
  let v202 : BitVec 1 := Scalar.cmpi .slt c2_i32_89 c0_i32_93
  let v203 : BitVec 32 := Scalar.extui v202
  let v204 : BitVec 32 := Scalar.subi v201 v203
  let v205 : BitVec 1 := Scalar.cmpi .ne v199 v204
  let v206 : BitVec 32 := Scalar.remsi v193 c2_i32_89
  let c0_i32_94 : BitVec 32 := 0#32
  let v207 : BitVec 1 := Scalar.cmpi .ne v206 c0_i32_94
  let v208 : BitVec 1 := Scalar.andi v205 v207
  let v194 : BitVec 32 := Scalar.divsi v193 c2_i32_89
  let c1_i32_95 : BitVec 32 := 1#32
  let v209 : BitVec 32 := Scalar.subi v194 c1_i32_95
  let v210 : BitVec 32 := Scalar.select v208 v209 v194
  let c64_i32_99 : BitVec 32 := 64#32
  let v216 : BitVec 32 := Scalar.muli v210 c64_i32_99
  let v217 : BitVec 32 := Scalar.addi v215 v216
  let c1_i32_96 : BitVec 32 := 1#32
  let v211 : BitVec 1 := Scalar.cmpi .eq v193 c1_i32_96
  let c2_i32_97 : BitVec 32 := 2#32
  let v212 : BitVec 1 := Scalar.cmpi .eq v193 c2_i32_97
  let v213 : BitVec 1 := Scalar.ori v211 v212
  let v214 : BitVec 32 := Scalar.extui v213
  let c32_i32_100 : BitVec 32 := 32#32
  let v218 : BitVec 32 := Scalar.muli v214 c32_i32_100
  let v219 : BitVec 32 := Scalar.addi v217 v218
  let c0_i32_263 : BitVec 32 := 0#32
  ![v219.toNat, 0]
def k0_dev9 (d0 : Dev nD) : Nat :=
  let c0_i32_260 : BitVec 32 := 0#32
  let c4_i32_43 : BitVec 32 := 4#32
  let c1_i32_42 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v99 : BitVec 32 := Scalar.subi c1_i32_42 v19
  let v100 : BitVec 32 := Scalar.muli c4_i32_43 v99
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_32 : BitVec 32 := 1#32
  let v83 : BitVec 32 := Scalar.xori v29 c1_i32_32
  let v101 : BitVec 32 := Scalar.addi v100 v83
  let c1_i32_259 : BitVec 32 := 1#32
  let v514 : BitVec 32 := Scalar.muli v101 c1_i32_259
  let v515 : BitVec 32 := Scalar.addi c0_i32_260 v514
  v515.toNat
def k0_off3 (d0 : Dev nD) : Fin 2 → Nat :=
  let c4_i32_45 : BitVec 32 := 4#32
  let c1_i32_44 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v102 : BitVec 32 := Scalar.subi c1_i32_44 v19
  let v103 : BitVec 32 := Scalar.muli c4_i32_45 v102
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v84 : BitVec 32 := Scalar.subi c3_i32 v29
  let v104 : BitVec 32 := Scalar.addi v103 v84
  let c0_i32_102 : BitVec 32 := 0#32
  let v221 : BitVec 1 := Scalar.cmpi .sgt v104 c0_i32_102
  let v222 : BitVec 32 := Scalar.extui v221
  let c0_i32_103 : BitVec 32 := 0#32
  let v223 : BitVec 1 := Scalar.cmpi .slt v104 c0_i32_103
  let v224 : BitVec 32 := Scalar.extui v223
  let v225 : BitVec 32 := Scalar.subi v222 v224
  let c4_i32_101 : BitVec 32 := 4#32
  let c0_i32_104 : BitVec 32 := 0#32
  let v226 : BitVec 1 := Scalar.cmpi .sgt c4_i32_101 c0_i32_104
  let v227 : BitVec 32 := Scalar.extui v226
  let c0_i32_105 : BitVec 32 := 0#32
  let v228 : BitVec 1 := Scalar.cmpi .slt c4_i32_101 c0_i32_105
  let v229 : BitVec 32 := Scalar.extui v228
  let v230 : BitVec 32 := Scalar.subi v227 v229
  let v231 : BitVec 1 := Scalar.cmpi .ne v225 v230
  let v232 : BitVec 32 := Scalar.remsi v104 c4_i32_101
  let c0_i32_106 : BitVec 32 := 0#32
  let v233 : BitVec 1 := Scalar.cmpi .ne v232 c0_i32_106
  let v234 : BitVec 1 := Scalar.andi v231 v233
  let v220 : BitVec 32 := Scalar.divsi v104 c4_i32_101
  let c1_i32_107 : BitVec 32 := 1#32
  let v235 : BitVec 32 := Scalar.subi v220 c1_i32_107
  let v236 : BitVec 32 := Scalar.select v234 v235 v220
  let c128_i32_123 : BitVec 32 := 128#32
  let v268 : BitVec 32 := Scalar.muli v236 c128_i32_123
  let c4_i32_108 : BitVec 32 := 4#32
  let c0_i32_109 : BitVec 32 := 0#32
  let v237 : BitVec 1 := Scalar.cmpi .eq c4_i32_108 c0_i32_109
  let c1_i32_110 : BitVec 32 := 1#32
  let v238 : BitVec 32 := Scalar.select v237 c1_i32_110 c4_i32_108
  let v239 : BitVec 32 := Scalar.remsi v104 v238
  let c0_i32_112 : BitVec 32 := 0#32
  let v241 : BitVec 1 := Scalar.cmpi .slt v239 c0_i32_112
  let c0_i32_113 : BitVec 32 := 0#32
  let v242 : BitVec 1 := Scalar.cmpi .slt v238 c0_i32_113
  let v243 : BitVec 1 := Scalar.xori v241 v242
  let c0_i32_111 : BitVec 32 := 0#32
  let v240 : BitVec 1 := Scalar.cmpi .ne v239 c0_i32_111
  let v244 : BitVec 1 := Scalar.andi v243 v240
  let v245 : BitVec 32 := Scalar.addi v239 v238
  let v246 : BitVec 32 := Scalar.select v244 v245 v239
  let c0_i32_115 : BitVec 32 := 0#32
  let v248 : BitVec 1 := Scalar.cmpi .sgt v246 c0_i32_115
  let v249 : BitVec 32 := Scalar.extui v248
  let c0_i32_116 : BitVec 32 := 0#32
  let v250 : BitVec 1 := Scalar.cmpi .slt v246 c0_i32_116
  let v251 : BitVec 32 := Scalar.extui v250
  let v252 : BitVec 32 := Scalar.subi v249 v251
  let c2_i32_114 : BitVec 32 := 2#32
  let c0_i32_117 : BitVec 32 := 0#32
  let v253 : BitVec 1 := Scalar.cmpi .sgt c2_i32_114 c0_i32_117
  let v254 : BitVec 32 := Scalar.extui v253
  let c0_i32_118 : BitVec 32 := 0#32
  let v255 : BitVec 1 := Scalar.cmpi .slt c2_i32_114 c0_i32_118
  let v256 : BitVec 32 := Scalar.extui v255
  let v257 : BitVec 32 := Scalar.subi v254 v256
  let v258 : BitVec 1 := Scalar.cmpi .ne v252 v257
  let v259 : BitVec 32 := Scalar.remsi v246 c2_i32_114
  let c0_i32_119 : BitVec 32 := 0#32
  let v260 : BitVec 1 := Scalar.cmpi .ne v259 c0_i32_119
  let v261 : BitVec 1 := Scalar.andi v258 v260
  let v247 : BitVec 32 := Scalar.divsi v246 c2_i32_114
  let c1_i32_120 : BitVec 32 := 1#32
  let v262 : BitVec 32 := Scalar.subi v247 c1_i32_120
  let v263 : BitVec 32 := Scalar.select v261 v262 v247
  let c64_i32_124 : BitVec 32 := 64#32
  let v269 : BitVec 32 := Scalar.muli v263 c64_i32_124
  let v270 : BitVec 32 := Scalar.addi v268 v269
  let c1_i32_121 : BitVec 32 := 1#32
  let v264 : BitVec 1 := Scalar.cmpi .eq v246 c1_i32_121
  let c2_i32_122 : BitVec 32 := 2#32
  let v265 : BitVec 1 := Scalar.cmpi .eq v246 c2_i32_122
  let v266 : BitVec 1 := Scalar.ori v264 v265
  let v267 : BitVec 32 := Scalar.extui v266
  let c32_i32_125 : BitVec 32 := 32#32
  let v271 : BitVec 32 := Scalar.muli v267 c32_i32_125
  let v272 : BitVec 32 := Scalar.addi v270 v271
  let c0_i32_270 : BitVec 32 := 0#32
  ![v272.toNat, 0]
def k0_dev10 (d0 : Dev nD) : Nat :=
  let c0_i32_267 : BitVec 32 := 0#32
  let c4_i32_45 : BitVec 32 := 4#32
  let c1_i32_44 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v102 : BitVec 32 := Scalar.subi c1_i32_44 v19
  let v103 : BitVec 32 := Scalar.muli c4_i32_45 v102
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v84 : BitVec 32 := Scalar.subi c3_i32 v29
  let v104 : BitVec 32 := Scalar.addi v103 v84
  let c1_i32_266 : BitVec 32 := 1#32
  let v522 : BitVec 32 := Scalar.muli v104 c1_i32_266
  let v523 : BitVec 32 := Scalar.addi c0_i32_267 v522
  v523.toNat
def k0_off4 (d0 : Dev nD) : Fin 2 → Nat :=
  let c4_i32_46 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v105 : BitVec 32 := Scalar.muli c4_i32_46 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_33 : BitVec 32 := 2#32
  let v85 : BitVec 32 := Scalar.addi v29 c2_i32_33
  let c4_i32_34 : BitVec 32 := 4#32
  let c0_i32_35 : BitVec 32 := 0#32
  let v86 : BitVec 1 := Scalar.cmpi .eq c4_i32_34 c0_i32_35
  let c1_i32_36 : BitVec 32 := 1#32
  let v87 : BitVec 32 := Scalar.select v86 c1_i32_36 c4_i32_34
  let v88 : BitVec 32 := Scalar.remsi v85 v87
  let c0_i32_38 : BitVec 32 := 0#32
  let v90 : BitVec 1 := Scalar.cmpi .slt v88 c0_i32_38
  let c0_i32_39 : BitVec 32 := 0#32
  let v91 : BitVec 1 := Scalar.cmpi .slt v87 c0_i32_39
  let v92 : BitVec 1 := Scalar.xori v90 v91
  let c0_i32_37 : BitVec 32 := 0#32
  let v89 : BitVec 1 := Scalar.cmpi .ne v88 c0_i32_37
  let v93 : BitVec 1 := Scalar.andi v92 v89
  let v94 : BitVec 32 := Scalar.addi v88 v87
  let v95 : BitVec 32 := Scalar.select v93 v94 v88
  let v106 : BitVec 32 := Scalar.addi v105 v95
  let c0_i32_127 : BitVec 32 := 0#32
  let v274 : BitVec 1 := Scalar.cmpi .sgt v106 c0_i32_127
  let v275 : BitVec 32 := Scalar.extui v274
  let c0_i32_128 : BitVec 32 := 0#32
  let v276 : BitVec 1 := Scalar.cmpi .slt v106 c0_i32_128
  let v277 : BitVec 32 := Scalar.extui v276
  let v278 : BitVec 32 := Scalar.subi v275 v277
  let c4_i32_126 : BitVec 32 := 4#32
  let c0_i32_129 : BitVec 32 := 0#32
  let v279 : BitVec 1 := Scalar.cmpi .sgt c4_i32_126 c0_i32_129
  let v280 : BitVec 32 := Scalar.extui v279
  let c0_i32_130 : BitVec 32 := 0#32
  let v281 : BitVec 1 := Scalar.cmpi .slt c4_i32_126 c0_i32_130
  let v282 : BitVec 32 := Scalar.extui v281
  let v283 : BitVec 32 := Scalar.subi v280 v282
  let v284 : BitVec 1 := Scalar.cmpi .ne v278 v283
  let v285 : BitVec 32 := Scalar.remsi v106 c4_i32_126
  let c0_i32_131 : BitVec 32 := 0#32
  let v286 : BitVec 1 := Scalar.cmpi .ne v285 c0_i32_131
  let v287 : BitVec 1 := Scalar.andi v284 v286
  let v273 : BitVec 32 := Scalar.divsi v106 c4_i32_126
  let c1_i32_132 : BitVec 32 := 1#32
  let v288 : BitVec 32 := Scalar.subi v273 c1_i32_132
  let v289 : BitVec 32 := Scalar.select v287 v288 v273
  let c128_i32_148 : BitVec 32 := 128#32
  let v321 : BitVec 32 := Scalar.muli v289 c128_i32_148
  let c4_i32_133 : BitVec 32 := 4#32
  let c0_i32_134 : BitVec 32 := 0#32
  let v290 : BitVec 1 := Scalar.cmpi .eq c4_i32_133 c0_i32_134
  let c1_i32_135 : BitVec 32 := 1#32
  let v291 : BitVec 32 := Scalar.select v290 c1_i32_135 c4_i32_133
  let v292 : BitVec 32 := Scalar.remsi v106 v291
  let c0_i32_137 : BitVec 32 := 0#32
  let v294 : BitVec 1 := Scalar.cmpi .slt v292 c0_i32_137
  let c0_i32_138 : BitVec 32 := 0#32
  let v295 : BitVec 1 := Scalar.cmpi .slt v291 c0_i32_138
  let v296 : BitVec 1 := Scalar.xori v294 v295
  let c0_i32_136 : BitVec 32 := 0#32
  let v293 : BitVec 1 := Scalar.cmpi .ne v292 c0_i32_136
  let v297 : BitVec 1 := Scalar.andi v296 v293
  let v298 : BitVec 32 := Scalar.addi v292 v291
  let v299 : BitVec 32 := Scalar.select v297 v298 v292
  let c0_i32_140 : BitVec 32 := 0#32
  let v301 : BitVec 1 := Scalar.cmpi .sgt v299 c0_i32_140
  let v302 : BitVec 32 := Scalar.extui v301
  let c0_i32_141 : BitVec 32 := 0#32
  let v303 : BitVec 1 := Scalar.cmpi .slt v299 c0_i32_141
  let v304 : BitVec 32 := Scalar.extui v303
  let v305 : BitVec 32 := Scalar.subi v302 v304
  let c2_i32_139 : BitVec 32 := 2#32
  let c0_i32_142 : BitVec 32 := 0#32
  let v306 : BitVec 1 := Scalar.cmpi .sgt c2_i32_139 c0_i32_142
  let v307 : BitVec 32 := Scalar.extui v306
  let c0_i32_143 : BitVec 32 := 0#32
  let v308 : BitVec 1 := Scalar.cmpi .slt c2_i32_139 c0_i32_143
  let v309 : BitVec 32 := Scalar.extui v308
  let v310 : BitVec 32 := Scalar.subi v307 v309
  let v311 : BitVec 1 := Scalar.cmpi .ne v305 v310
  let v312 : BitVec 32 := Scalar.remsi v299 c2_i32_139
  let c0_i32_144 : BitVec 32 := 0#32
  let v313 : BitVec 1 := Scalar.cmpi .ne v312 c0_i32_144
  let v314 : BitVec 1 := Scalar.andi v311 v313
  let v300 : BitVec 32 := Scalar.divsi v299 c2_i32_139
  let c1_i32_145 : BitVec 32 := 1#32
  let v315 : BitVec 32 := Scalar.subi v300 c1_i32_145
  let v316 : BitVec 32 := Scalar.select v314 v315 v300
  let c64_i32_149 : BitVec 32 := 64#32
  let v322 : BitVec 32 := Scalar.muli v316 c64_i32_149
  let v323 : BitVec 32 := Scalar.addi v321 v322
  let c1_i32_146 : BitVec 32 := 1#32
  let v317 : BitVec 1 := Scalar.cmpi .eq v299 c1_i32_146
  let c2_i32_147 : BitVec 32 := 2#32
  let v318 : BitVec 1 := Scalar.cmpi .eq v299 c2_i32_147
  let v319 : BitVec 1 := Scalar.ori v317 v318
  let v320 : BitVec 32 := Scalar.extui v319
  let c32_i32_150 : BitVec 32 := 32#32
  let v324 : BitVec 32 := Scalar.muli v320 c32_i32_150
  let v325 : BitVec 32 := Scalar.addi v323 v324
  let c0_i32_276 : BitVec 32 := 0#32
  ![v325.toNat, 0]
def k0_dev11 (d0 : Dev nD) : Nat :=
  let c0_i32_274 : BitVec 32 := 0#32
  let c4_i32_46 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v105 : BitVec 32 := Scalar.muli c4_i32_46 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_33 : BitVec 32 := 2#32
  let v85 : BitVec 32 := Scalar.addi v29 c2_i32_33
  let c4_i32_34 : BitVec 32 := 4#32
  let c0_i32_35 : BitVec 32 := 0#32
  let v86 : BitVec 1 := Scalar.cmpi .eq c4_i32_34 c0_i32_35
  let c1_i32_36 : BitVec 32 := 1#32
  let v87 : BitVec 32 := Scalar.select v86 c1_i32_36 c4_i32_34
  let v88 : BitVec 32 := Scalar.remsi v85 v87
  let c0_i32_38 : BitVec 32 := 0#32
  let v90 : BitVec 1 := Scalar.cmpi .slt v88 c0_i32_38
  let c0_i32_39 : BitVec 32 := 0#32
  let v91 : BitVec 1 := Scalar.cmpi .slt v87 c0_i32_39
  let v92 : BitVec 1 := Scalar.xori v90 v91
  let c0_i32_37 : BitVec 32 := 0#32
  let v89 : BitVec 1 := Scalar.cmpi .ne v88 c0_i32_37
  let v93 : BitVec 1 := Scalar.andi v92 v89
  let v94 : BitVec 32 := Scalar.addi v88 v87
  let v95 : BitVec 32 := Scalar.select v93 v94 v88
  let v106 : BitVec 32 := Scalar.addi v105 v95
  let c1_i32_273 : BitVec 32 := 1#32
  let v530 : BitVec 32 := Scalar.muli v106 c1_i32_273
  let v531 : BitVec 32 := Scalar.addi c0_i32_274 v530
  v531.toNat
def k0_off5 (d0 : Dev nD) : Fin 2 → Nat :=
  let c4_i32_47 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v107 : BitVec 32 := Scalar.muli c4_i32_47 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_32 : BitVec 32 := 1#32
  let v83 : BitVec 32 := Scalar.xori v29 c1_i32_32
  let v108 : BitVec 32 := Scalar.addi v107 v83
  let c0_i32_152 : BitVec 32 := 0#32
  let v327 : BitVec 1 := Scalar.cmpi .sgt v108 c0_i32_152
  let v328 : BitVec 32 := Scalar.extui v327
  let c0_i32_153 : BitVec 32 := 0#32
  let v329 : BitVec 1 := Scalar.cmpi .slt v108 c0_i32_153
  let v330 : BitVec 32 := Scalar.extui v329
  let v331 : BitVec 32 := Scalar.subi v328 v330
  let c4_i32_151 : BitVec 32 := 4#32
  let c0_i32_154 : BitVec 32 := 0#32
  let v332 : BitVec 1 := Scalar.cmpi .sgt c4_i32_151 c0_i32_154
  let v333 : BitVec 32 := Scalar.extui v332
  let c0_i32_155 : BitVec 32 := 0#32
  let v334 : BitVec 1 := Scalar.cmpi .slt c4_i32_151 c0_i32_155
  let v335 : BitVec 32 := Scalar.extui v334
  let v336 : BitVec 32 := Scalar.subi v333 v335
  let v337 : BitVec 1 := Scalar.cmpi .ne v331 v336
  let v338 : BitVec 32 := Scalar.remsi v108 c4_i32_151
  let c0_i32_156 : BitVec 32 := 0#32
  let v339 : BitVec 1 := Scalar.cmpi .ne v338 c0_i32_156
  let v340 : BitVec 1 := Scalar.andi v337 v339
  let v326 : BitVec 32 := Scalar.divsi v108 c4_i32_151
  let c1_i32_157 : BitVec 32 := 1#32
  let v341 : BitVec 32 := Scalar.subi v326 c1_i32_157
  let v342 : BitVec 32 := Scalar.select v340 v341 v326
  let c128_i32_173 : BitVec 32 := 128#32
  let v374 : BitVec 32 := Scalar.muli v342 c128_i32_173
  let c4_i32_158 : BitVec 32 := 4#32
  let c0_i32_159 : BitVec 32 := 0#32
  let v343 : BitVec 1 := Scalar.cmpi .eq c4_i32_158 c0_i32_159
  let c1_i32_160 : BitVec 32 := 1#32
  let v344 : BitVec 32 := Scalar.select v343 c1_i32_160 c4_i32_158
  let v345 : BitVec 32 := Scalar.remsi v108 v344
  let c0_i32_162 : BitVec 32 := 0#32
  let v347 : BitVec 1 := Scalar.cmpi .slt v345 c0_i32_162
  let c0_i32_163 : BitVec 32 := 0#32
  let v348 : BitVec 1 := Scalar.cmpi .slt v344 c0_i32_163
  let v349 : BitVec 1 := Scalar.xori v347 v348
  let c0_i32_161 : BitVec 32 := 0#32
  let v346 : BitVec 1 := Scalar.cmpi .ne v345 c0_i32_161
  let v350 : BitVec 1 := Scalar.andi v349 v346
  let v351 : BitVec 32 := Scalar.addi v345 v344
  let v352 : BitVec 32 := Scalar.select v350 v351 v345
  let c0_i32_165 : BitVec 32 := 0#32
  let v354 : BitVec 1 := Scalar.cmpi .sgt v352 c0_i32_165
  let v355 : BitVec 32 := Scalar.extui v354
  let c0_i32_166 : BitVec 32 := 0#32
  let v356 : BitVec 1 := Scalar.cmpi .slt v352 c0_i32_166
  let v357 : BitVec 32 := Scalar.extui v356
  let v358 : BitVec 32 := Scalar.subi v355 v357
  let c2_i32_164 : BitVec 32 := 2#32
  let c0_i32_167 : BitVec 32 := 0#32
  let v359 : BitVec 1 := Scalar.cmpi .sgt c2_i32_164 c0_i32_167
  let v360 : BitVec 32 := Scalar.extui v359
  let c0_i32_168 : BitVec 32 := 0#32
  let v361 : BitVec 1 := Scalar.cmpi .slt c2_i32_164 c0_i32_168
  let v362 : BitVec 32 := Scalar.extui v361
  let v363 : BitVec 32 := Scalar.subi v360 v362
  let v364 : BitVec 1 := Scalar.cmpi .ne v358 v363
  let v365 : BitVec 32 := Scalar.remsi v352 c2_i32_164
  let c0_i32_169 : BitVec 32 := 0#32
  let v366 : BitVec 1 := Scalar.cmpi .ne v365 c0_i32_169
  let v367 : BitVec 1 := Scalar.andi v364 v366
  let v353 : BitVec 32 := Scalar.divsi v352 c2_i32_164
  let c1_i32_170 : BitVec 32 := 1#32
  let v368 : BitVec 32 := Scalar.subi v353 c1_i32_170
  let v369 : BitVec 32 := Scalar.select v367 v368 v353
  let c64_i32_174 : BitVec 32 := 64#32
  let v375 : BitVec 32 := Scalar.muli v369 c64_i32_174
  let v376 : BitVec 32 := Scalar.addi v374 v375
  let c1_i32_171 : BitVec 32 := 1#32
  let v370 : BitVec 1 := Scalar.cmpi .eq v352 c1_i32_171
  let c2_i32_172 : BitVec 32 := 2#32
  let v371 : BitVec 1 := Scalar.cmpi .eq v352 c2_i32_172
  let v372 : BitVec 1 := Scalar.ori v370 v371
  let v373 : BitVec 32 := Scalar.extui v372
  let c32_i32_175 : BitVec 32 := 32#32
  let v377 : BitVec 32 := Scalar.muli v373 c32_i32_175
  let v378 : BitVec 32 := Scalar.addi v376 v377
  let c0_i32_283 : BitVec 32 := 0#32
  ![v378.toNat, 0]
def k0_dev12 (d0 : Dev nD) : Nat :=
  let c0_i32_280 : BitVec 32 := 0#32
  let c4_i32_47 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v107 : BitVec 32 := Scalar.muli c4_i32_47 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_32 : BitVec 32 := 1#32
  let v83 : BitVec 32 := Scalar.xori v29 c1_i32_32
  let v108 : BitVec 32 := Scalar.addi v107 v83
  let c1_i32_279 : BitVec 32 := 1#32
  let v538 : BitVec 32 := Scalar.muli v108 c1_i32_279
  let v539 : BitVec 32 := Scalar.addi c0_i32_280 v538
  v539.toNat
def k0_off6 (d0 : Dev nD) : Fin 2 → Nat :=
  let c4_i32_48 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v109 : BitVec 32 := Scalar.muli c4_i32_48 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v84 : BitVec 32 := Scalar.subi c3_i32 v29
  let v110 : BitVec 32 := Scalar.addi v109 v84
  let c0_i32_177 : BitVec 32 := 0#32
  let v380 : BitVec 1 := Scalar.cmpi .sgt v110 c0_i32_177
  let v381 : BitVec 32 := Scalar.extui v380
  let c0_i32_178 : BitVec 32 := 0#32
  let v382 : BitVec 1 := Scalar.cmpi .slt v110 c0_i32_178
  let v383 : BitVec 32 := Scalar.extui v382
  let v384 : BitVec 32 := Scalar.subi v381 v383
  let c4_i32_176 : BitVec 32 := 4#32
  let c0_i32_179 : BitVec 32 := 0#32
  let v385 : BitVec 1 := Scalar.cmpi .sgt c4_i32_176 c0_i32_179
  let v386 : BitVec 32 := Scalar.extui v385
  let c0_i32_180 : BitVec 32 := 0#32
  let v387 : BitVec 1 := Scalar.cmpi .slt c4_i32_176 c0_i32_180
  let v388 : BitVec 32 := Scalar.extui v387
  let v389 : BitVec 32 := Scalar.subi v386 v388
  let v390 : BitVec 1 := Scalar.cmpi .ne v384 v389
  let v391 : BitVec 32 := Scalar.remsi v110 c4_i32_176
  let c0_i32_181 : BitVec 32 := 0#32
  let v392 : BitVec 1 := Scalar.cmpi .ne v391 c0_i32_181
  let v393 : BitVec 1 := Scalar.andi v390 v392
  let v379 : BitVec 32 := Scalar.divsi v110 c4_i32_176
  let c1_i32_182 : BitVec 32 := 1#32
  let v394 : BitVec 32 := Scalar.subi v379 c1_i32_182
  let v395 : BitVec 32 := Scalar.select v393 v394 v379
  let c128_i32_198 : BitVec 32 := 128#32
  let v427 : BitVec 32 := Scalar.muli v395 c128_i32_198
  let c4_i32_183 : BitVec 32 := 4#32
  let c0_i32_184 : BitVec 32 := 0#32
  let v396 : BitVec 1 := Scalar.cmpi .eq c4_i32_183 c0_i32_184
  let c1_i32_185 : BitVec 32 := 1#32
  let v397 : BitVec 32 := Scalar.select v396 c1_i32_185 c4_i32_183
  let v398 : BitVec 32 := Scalar.remsi v110 v397
  let c0_i32_187 : BitVec 32 := 0#32
  let v400 : BitVec 1 := Scalar.cmpi .slt v398 c0_i32_187
  let c0_i32_188 : BitVec 32 := 0#32
  let v401 : BitVec 1 := Scalar.cmpi .slt v397 c0_i32_188
  let v402 : BitVec 1 := Scalar.xori v400 v401
  let c0_i32_186 : BitVec 32 := 0#32
  let v399 : BitVec 1 := Scalar.cmpi .ne v398 c0_i32_186
  let v403 : BitVec 1 := Scalar.andi v402 v399
  let v404 : BitVec 32 := Scalar.addi v398 v397
  let v405 : BitVec 32 := Scalar.select v403 v404 v398
  let c0_i32_190 : BitVec 32 := 0#32
  let v407 : BitVec 1 := Scalar.cmpi .sgt v405 c0_i32_190
  let v408 : BitVec 32 := Scalar.extui v407
  let c0_i32_191 : BitVec 32 := 0#32
  let v409 : BitVec 1 := Scalar.cmpi .slt v405 c0_i32_191
  let v410 : BitVec 32 := Scalar.extui v409
  let v411 : BitVec 32 := Scalar.subi v408 v410
  let c2_i32_189 : BitVec 32 := 2#32
  let c0_i32_192 : BitVec 32 := 0#32
  let v412 : BitVec 1 := Scalar.cmpi .sgt c2_i32_189 c0_i32_192
  let v413 : BitVec 32 := Scalar.extui v412
  let c0_i32_193 : BitVec 32 := 0#32
  let v414 : BitVec 1 := Scalar.cmpi .slt c2_i32_189 c0_i32_193
  let v415 : BitVec 32 := Scalar.extui v414
  let v416 : BitVec 32 := Scalar.subi v413 v415
  let v417 : BitVec 1 := Scalar.cmpi .ne v411 v416
  let v418 : BitVec 32 := Scalar.remsi v405 c2_i32_189
  let c0_i32_194 : BitVec 32 := 0#32
  let v419 : BitVec 1 := Scalar.cmpi .ne v418 c0_i32_194
  let v420 : BitVec 1 := Scalar.andi v417 v419
  let v406 : BitVec 32 := Scalar.divsi v405 c2_i32_189
  let c1_i32_195 : BitVec 32 := 1#32
  let v421 : BitVec 32 := Scalar.subi v406 c1_i32_195
  let v422 : BitVec 32 := Scalar.select v420 v421 v406
  let c64_i32_199 : BitVec 32 := 64#32
  let v428 : BitVec 32 := Scalar.muli v422 c64_i32_199
  let v429 : BitVec 32 := Scalar.addi v427 v428
  let c1_i32_196 : BitVec 32 := 1#32
  let v423 : BitVec 1 := Scalar.cmpi .eq v405 c1_i32_196
  let c2_i32_197 : BitVec 32 := 2#32
  let v424 : BitVec 1 := Scalar.cmpi .eq v405 c2_i32_197
  let v425 : BitVec 1 := Scalar.ori v423 v424
  let v426 : BitVec 32 := Scalar.extui v425
  let c32_i32_200 : BitVec 32 := 32#32
  let v430 : BitVec 32 := Scalar.muli v426 c32_i32_200
  let v431 : BitVec 32 := Scalar.addi v429 v430
  let c0_i32_288 : BitVec 32 := 0#32
  ![v431.toNat, 0]
def k0_dev13 (d0 : Dev nD) : Nat :=
  let c0_i32_286 : BitVec 32 := 0#32
  let c4_i32_48 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v109 : BitVec 32 := Scalar.muli c4_i32_48 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v84 : BitVec 32 := Scalar.subi c3_i32 v29
  let v110 : BitVec 32 := Scalar.addi v109 v84
  let c1_i32_285 : BitVec 32 := 1#32
  let v546 : BitVec 32 := Scalar.muli v110 c1_i32_285
  let v547 : BitVec 32 := Scalar.addi c0_i32_286 v546
  v547.toNat
def k0_off7 (d0 : Dev nD) : Fin 2 → Nat :=
  let c4_i32_50 : BitVec 32 := 4#32
  let c1_i32_49 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v111 : BitVec 32 := Scalar.subi c1_i32_49 v19
  let v112 : BitVec 32 := Scalar.muli c4_i32_50 v111
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v113 : BitVec 32 := Scalar.addi v112 v29
  let c0_i32_202 : BitVec 32 := 0#32
  let v433 : BitVec 1 := Scalar.cmpi .sgt v113 c0_i32_202
  let v434 : BitVec 32 := Scalar.extui v433
  let c0_i32_203 : BitVec 32 := 0#32
  let v435 : BitVec 1 := Scalar.cmpi .slt v113 c0_i32_203
  let v436 : BitVec 32 := Scalar.extui v435
  let v437 : BitVec 32 := Scalar.subi v434 v436
  let c4_i32_201 : BitVec 32 := 4#32
  let c0_i32_204 : BitVec 32 := 0#32
  let v438 : BitVec 1 := Scalar.cmpi .sgt c4_i32_201 c0_i32_204
  let v439 : BitVec 32 := Scalar.extui v438
  let c0_i32_205 : BitVec 32 := 0#32
  let v440 : BitVec 1 := Scalar.cmpi .slt c4_i32_201 c0_i32_205
  let v441 : BitVec 32 := Scalar.extui v440
  let v442 : BitVec 32 := Scalar.subi v439 v441
  let v443 : BitVec 1 := Scalar.cmpi .ne v437 v442
  let v444 : BitVec 32 := Scalar.remsi v113 c4_i32_201
  let c0_i32_206 : BitVec 32 := 0#32
  let v445 : BitVec 1 := Scalar.cmpi .ne v444 c0_i32_206
  let v446 : BitVec 1 := Scalar.andi v443 v445
  let v432 : BitVec 32 := Scalar.divsi v113 c4_i32_201
  let c1_i32_207 : BitVec 32 := 1#32
  let v447 : BitVec 32 := Scalar.subi v432 c1_i32_207
  let v448 : BitVec 32 := Scalar.select v446 v447 v432
  let c128_i32_223 : BitVec 32 := 128#32
  let v480 : BitVec 32 := Scalar.muli v448 c128_i32_223
  let c4_i32_208 : BitVec 32 := 4#32
  let c0_i32_209 : BitVec 32 := 0#32
  let v449 : BitVec 1 := Scalar.cmpi .eq c4_i32_208 c0_i32_209
  let c1_i32_210 : BitVec 32 := 1#32
  let v450 : BitVec 32 := Scalar.select v449 c1_i32_210 c4_i32_208
  let v451 : BitVec 32 := Scalar.remsi v113 v450
  let c0_i32_212 : BitVec 32 := 0#32
  let v453 : BitVec 1 := Scalar.cmpi .slt v451 c0_i32_212
  let c0_i32_213 : BitVec 32 := 0#32
  let v454 : BitVec 1 := Scalar.cmpi .slt v450 c0_i32_213
  let v455 : BitVec 1 := Scalar.xori v453 v454
  let c0_i32_211 : BitVec 32 := 0#32
  let v452 : BitVec 1 := Scalar.cmpi .ne v451 c0_i32_211
  let v456 : BitVec 1 := Scalar.andi v455 v452
  let v457 : BitVec 32 := Scalar.addi v451 v450
  let v458 : BitVec 32 := Scalar.select v456 v457 v451
  let c0_i32_215 : BitVec 32 := 0#32
  let v460 : BitVec 1 := Scalar.cmpi .sgt v458 c0_i32_215
  let v461 : BitVec 32 := Scalar.extui v460
  let c0_i32_216 : BitVec 32 := 0#32
  let v462 : BitVec 1 := Scalar.cmpi .slt v458 c0_i32_216
  let v463 : BitVec 32 := Scalar.extui v462
  let v464 : BitVec 32 := Scalar.subi v461 v463
  let c2_i32_214 : BitVec 32 := 2#32
  let c0_i32_217 : BitVec 32 := 0#32
  let v465 : BitVec 1 := Scalar.cmpi .sgt c2_i32_214 c0_i32_217
  let v466 : BitVec 32 := Scalar.extui v465
  let c0_i32_218 : BitVec 32 := 0#32
  let v467 : BitVec 1 := Scalar.cmpi .slt c2_i32_214 c0_i32_218
  let v468 : BitVec 32 := Scalar.extui v467
  let v469 : BitVec 32 := Scalar.subi v466 v468
  let v470 : BitVec 1 := Scalar.cmpi .ne v464 v469
  let v471 : BitVec 32 := Scalar.remsi v458 c2_i32_214
  let c0_i32_219 : BitVec 32 := 0#32
  let v472 : BitVec 1 := Scalar.cmpi .ne v471 c0_i32_219
  let v473 : BitVec 1 := Scalar.andi v470 v472
  let v459 : BitVec 32 := Scalar.divsi v458 c2_i32_214
  let c1_i32_220 : BitVec 32 := 1#32
  let v474 : BitVec 32 := Scalar.subi v459 c1_i32_220
  let v475 : BitVec 32 := Scalar.select v473 v474 v459
  let c64_i32_224 : BitVec 32 := 64#32
  let v481 : BitVec 32 := Scalar.muli v475 c64_i32_224
  let v482 : BitVec 32 := Scalar.addi v480 v481
  let c1_i32_221 : BitVec 32 := 1#32
  let v476 : BitVec 1 := Scalar.cmpi .eq v458 c1_i32_221
  let c2_i32_222 : BitVec 32 := 2#32
  let v477 : BitVec 1 := Scalar.cmpi .eq v458 c2_i32_222
  let v478 : BitVec 1 := Scalar.ori v476 v477
  let v479 : BitVec 32 := Scalar.extui v478
  let c32_i32_225 : BitVec 32 := 32#32
  let v483 : BitVec 32 := Scalar.muli v479 c32_i32_225
  let v484 : BitVec 32 := Scalar.addi v482 v483
  let c0_i32_293 : BitVec 32 := 0#32
  ![v484.toNat, 0]
def k0_dev14 (d0 : Dev nD) : Nat :=
  let c0_i32_291 : BitVec 32 := 0#32
  let c4_i32_50 : BitVec 32 := 4#32
  let c1_i32_49 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v111 : BitVec 32 := Scalar.subi c1_i32_49 v19
  let v112 : BitVec 32 := Scalar.muli c4_i32_50 v111
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v113 : BitVec 32 := Scalar.addi v112 v29
  let c1_i32_290 : BitVec 32 := 1#32
  let v554 : BitVec 32 := Scalar.muli v113 c1_i32_290
  let v555 : BitVec 32 := Scalar.addi c0_i32_291 v554
  v555.toNat
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_12 : BitVec 32 := 0#32
  let v31 : BitVec 1 := Scalar.cmpi .sgt v2 c0_i32_12
  let v32 : BitVec 32 := Scalar.extui v31
  let c0_i32_13 : BitVec 32 := 0#32
  let v33 : BitVec 1 := Scalar.cmpi .slt v2 c0_i32_13
  let v34 : BitVec 32 := Scalar.extui v33
  let v35 : BitVec 32 := Scalar.subi v32 v34
  let c4_i32_11 : BitVec 32 := 4#32
  let c0_i32_14 : BitVec 32 := 0#32
  let v36 : BitVec 1 := Scalar.cmpi .sgt c4_i32_11 c0_i32_14
  let v37 : BitVec 32 := Scalar.extui v36
  let c0_i32_15 : BitVec 32 := 0#32
  let v38 : BitVec 1 := Scalar.cmpi .slt c4_i32_11 c0_i32_15
  let v39 : BitVec 32 := Scalar.extui v38
  let v40 : BitVec 32 := Scalar.subi v37 v39
  let v41 : BitVec 1 := Scalar.cmpi .ne v35 v40
  let v42 : BitVec 32 := Scalar.remsi v2 c4_i32_11
  let c0_i32_16 : BitVec 32 := 0#32
  let v43 : BitVec 1 := Scalar.cmpi .ne v42 c0_i32_16
  let v44 : BitVec 1 := Scalar.andi v41 v43
  let v30 : BitVec 32 := Scalar.divsi v2 c4_i32_11
  let c1_i32_17 : BitVec 32 := 1#32
  let v45 : BitVec 32 := Scalar.subi v30 c1_i32_17
  let v46 : BitVec 32 := Scalar.select v44 v45 v30
  let c128_i32 : BitVec 32 := 128#32
  let v78 : BitVec 32 := Scalar.muli v46 c128_i32
  let c4_i32_18 : BitVec 32 := 4#32
  let c0_i32_19 : BitVec 32 := 0#32
  let v47 : BitVec 1 := Scalar.cmpi .eq c4_i32_18 c0_i32_19
  let c1_i32_20 : BitVec 32 := 1#32
  let v48 : BitVec 32 := Scalar.select v47 c1_i32_20 c4_i32_18
  let v49 : BitVec 32 := Scalar.remsi v2 v48
  let c0_i32_22 : BitVec 32 := 0#32
  let v51 : BitVec 1 := Scalar.cmpi .slt v49 c0_i32_22
  let c0_i32_23 : BitVec 32 := 0#32
  let v52 : BitVec 1 := Scalar.cmpi .slt v48 c0_i32_23
  let v53 : BitVec 1 := Scalar.xori v51 v52
  let c0_i32_21 : BitVec 32 := 0#32
  let v50 : BitVec 1 := Scalar.cmpi .ne v49 c0_i32_21
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v56 c0_i32_24
  let v59 : BitVec 32 := Scalar.extui v58
  let c0_i32_25 : BitVec 32 := 0#32
  let v60 : BitVec 1 := Scalar.cmpi .slt v56 c0_i32_25
  let v61 : BitVec 32 := Scalar.extui v60
  let v62 : BitVec 32 := Scalar.subi v59 v61
  let c2_i32 : BitVec 32 := 2#32
  let c0_i32_26 : BitVec 32 := 0#32
  let v63 : BitVec 1 := Scalar.cmpi .sgt c2_i32 c0_i32_26
  let v64 : BitVec 32 := Scalar.extui v63
  let c0_i32_27 : BitVec 32 := 0#32
  let v65 : BitVec 1 := Scalar.cmpi .slt c2_i32 c0_i32_27
  let v66 : BitVec 32 := Scalar.extui v65
  let v67 : BitVec 32 := Scalar.subi v64 v66
  let v68 : BitVec 1 := Scalar.cmpi .ne v62 v67
  let v69 : BitVec 32 := Scalar.remsi v56 c2_i32
  let c0_i32_28 : BitVec 32 := 0#32
  let v70 : BitVec 1 := Scalar.cmpi .ne v69 c0_i32_28
  let v71 : BitVec 1 := Scalar.andi v68 v70
  let v57 : BitVec 32 := Scalar.divsi v56 c2_i32
  let c1_i32_29 : BitVec 32 := 1#32
  let v72 : BitVec 32 := Scalar.subi v57 c1_i32_29
  let v73 : BitVec 32 := Scalar.select v71 v72 v57
  let c64_i32 : BitVec 32 := 64#32
  let v79 : BitVec 32 := Scalar.muli v73 c64_i32
  let v80 : BitVec 32 := Scalar.addi v78 v79
  let c1_i32_30 : BitVec 32 := 1#32
  let v74 : BitVec 1 := Scalar.cmpi .eq v56 c1_i32_30
  let c2_i32_31 : BitVec 32 := 2#32
  let v75 : BitVec 1 := Scalar.cmpi .eq v56 c2_i32_31
  let v76 : BitVec 1 := Scalar.ori v74 v75
  let v77 : BitVec 32 := Scalar.extui v76
  let c32_i32 : BitVec 32 := 32#32
  let v81 : BitVec 32 := Scalar.muli v77 c32_i32
  let v82 : BitVec 32 := Scalar.addi v80 v81
  let v562 : Index := Scalar.indexCast v82
  let c0_294 : Index := 0#32
  ![v562.toNat, 0]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_12 : BitVec 32 := 0#32
  let v31 : BitVec 1 := Scalar.cmpi .sgt v2 c0_i32_12
  let v32 : BitVec 32 := Scalar.extui v31
  let c0_i32_13 : BitVec 32 := 0#32
  let v33 : BitVec 1 := Scalar.cmpi .slt v2 c0_i32_13
  let v34 : BitVec 32 := Scalar.extui v33
  let v35 : BitVec 32 := Scalar.subi v32 v34
  let c4_i32_11 : BitVec 32 := 4#32
  let c0_i32_14 : BitVec 32 := 0#32
  let v36 : BitVec 1 := Scalar.cmpi .sgt c4_i32_11 c0_i32_14
  let v37 : BitVec 32 := Scalar.extui v36
  let c0_i32_15 : BitVec 32 := 0#32
  let v38 : BitVec 1 := Scalar.cmpi .slt c4_i32_11 c0_i32_15
  let v39 : BitVec 32 := Scalar.extui v38
  let v40 : BitVec 32 := Scalar.subi v37 v39
  let v41 : BitVec 1 := Scalar.cmpi .ne v35 v40
  let v42 : BitVec 32 := Scalar.remsi v2 c4_i32_11
  let c0_i32_16 : BitVec 32 := 0#32
  let v43 : BitVec 1 := Scalar.cmpi .ne v42 c0_i32_16
  let v44 : BitVec 1 := Scalar.andi v41 v43
  let v30 : BitVec 32 := Scalar.divsi v2 c4_i32_11
  let c1_i32_17 : BitVec 32 := 1#32
  let v45 : BitVec 32 := Scalar.subi v30 c1_i32_17
  let v46 : BitVec 32 := Scalar.select v44 v45 v30
  let c128_i32 : BitVec 32 := 128#32
  let v78 : BitVec 32 := Scalar.muli v46 c128_i32
  let c4_i32_18 : BitVec 32 := 4#32
  let c0_i32_19 : BitVec 32 := 0#32
  let v47 : BitVec 1 := Scalar.cmpi .eq c4_i32_18 c0_i32_19
  let c1_i32_20 : BitVec 32 := 1#32
  let v48 : BitVec 32 := Scalar.select v47 c1_i32_20 c4_i32_18
  let v49 : BitVec 32 := Scalar.remsi v2 v48
  let c0_i32_22 : BitVec 32 := 0#32
  let v51 : BitVec 1 := Scalar.cmpi .slt v49 c0_i32_22
  let c0_i32_23 : BitVec 32 := 0#32
  let v52 : BitVec 1 := Scalar.cmpi .slt v48 c0_i32_23
  let v53 : BitVec 1 := Scalar.xori v51 v52
  let c0_i32_21 : BitVec 32 := 0#32
  let v50 : BitVec 1 := Scalar.cmpi .ne v49 c0_i32_21
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v56 c0_i32_24
  let v59 : BitVec 32 := Scalar.extui v58
  let c0_i32_25 : BitVec 32 := 0#32
  let v60 : BitVec 1 := Scalar.cmpi .slt v56 c0_i32_25
  let v61 : BitVec 32 := Scalar.extui v60
  let v62 : BitVec 32 := Scalar.subi v59 v61
  let c2_i32 : BitVec 32 := 2#32
  let c0_i32_26 : BitVec 32 := 0#32
  let v63 : BitVec 1 := Scalar.cmpi .sgt c2_i32 c0_i32_26
  let v64 : BitVec 32 := Scalar.extui v63
  let c0_i32_27 : BitVec 32 := 0#32
  let v65 : BitVec 1 := Scalar.cmpi .slt c2_i32 c0_i32_27
  let v66 : BitVec 32 := Scalar.extui v65
  let v67 : BitVec 32 := Scalar.subi v64 v66
  let v68 : BitVec 1 := Scalar.cmpi .ne v62 v67
  let v69 : BitVec 32 := Scalar.remsi v56 c2_i32
  let c0_i32_28 : BitVec 32 := 0#32
  let v70 : BitVec 1 := Scalar.cmpi .ne v69 c0_i32_28
  let v71 : BitVec 1 := Scalar.andi v68 v70
  let v57 : BitVec 32 := Scalar.divsi v56 c2_i32
  let c1_i32_29 : BitVec 32 := 1#32
  let v72 : BitVec 32 := Scalar.subi v57 c1_i32_29
  let v73 : BitVec 32 := Scalar.select v71 v72 v57
  let c64_i32 : BitVec 32 := 64#32
  let v79 : BitVec 32 := Scalar.muli v73 c64_i32
  let v80 : BitVec 32 := Scalar.addi v78 v79
  let c1_i32_30 : BitVec 32 := 1#32
  let v74 : BitVec 1 := Scalar.cmpi .eq v56 c1_i32_30
  let c2_i32_31 : BitVec 32 := 2#32
  let v75 : BitVec 1 := Scalar.cmpi .eq v56 c2_i32_31
  let v76 : BitVec 1 := Scalar.ori v74 v75
  let v77 : BitVec 32 := Scalar.extui v76
  let c32_i32 : BitVec 32 := 32#32
  let v81 : BitVec 32 := Scalar.muli v77 c32_i32
  let v82 : BitVec 32 := Scalar.addi v80 v81
  let c0_i32_367 : BitVec 32 := 0#32
  ![v82.toNat, 0]
def k0_dev15 (d0 : Dev nD) : Nat :=
  let c0_i32_364 : BitVec 32 := 0#32
  let c4_i32_41 : BitVec 32 := 4#32
  let c1_i32_40 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v96 : BitVec 32 := Scalar.subi c1_i32_40 v19
  let v97 : BitVec 32 := Scalar.muli c4_i32_41 v96
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_33 : BitVec 32 := 2#32
  let v85 : BitVec 32 := Scalar.addi v29 c2_i32_33
  let c4_i32_34 : BitVec 32 := 4#32
  let c0_i32_35 : BitVec 32 := 0#32
  let v86 : BitVec 1 := Scalar.cmpi .eq c4_i32_34 c0_i32_35
  let c1_i32_36 : BitVec 32 := 1#32
  let v87 : BitVec 32 := Scalar.select v86 c1_i32_36 c4_i32_34
  let v88 : BitVec 32 := Scalar.remsi v85 v87
  let c0_i32_38 : BitVec 32 := 0#32
  let v90 : BitVec 1 := Scalar.cmpi .slt v88 c0_i32_38
  let c0_i32_39 : BitVec 32 := 0#32
  let v91 : BitVec 1 := Scalar.cmpi .slt v87 c0_i32_39
  let v92 : BitVec 1 := Scalar.xori v90 v91
  let c0_i32_37 : BitVec 32 := 0#32
  let v89 : BitVec 1 := Scalar.cmpi .ne v88 c0_i32_37
  let v93 : BitVec 1 := Scalar.andi v92 v89
  let v94 : BitVec 32 := Scalar.addi v88 v87
  let v95 : BitVec 32 := Scalar.select v93 v94 v88
  let v98 : BitVec 32 := Scalar.addi v97 v95
  let c1_i32_363 : BitVec 32 := 1#32
  let v635 : BitVec 32 := Scalar.muli v98 c1_i32_363
  let v636 : BitVec 32 := Scalar.addi c0_i32_364 v635
  v636.toNat
def k0_dev16 (d0 : Dev nD) : Nat :=
  let c0_i32_371 : BitVec 32 := 0#32
  let c4_i32_43 : BitVec 32 := 4#32
  let c1_i32_42 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v99 : BitVec 32 := Scalar.subi c1_i32_42 v19
  let v100 : BitVec 32 := Scalar.muli c4_i32_43 v99
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_32 : BitVec 32 := 1#32
  let v83 : BitVec 32 := Scalar.xori v29 c1_i32_32
  let v101 : BitVec 32 := Scalar.addi v100 v83
  let c1_i32_370 : BitVec 32 := 1#32
  let v643 : BitVec 32 := Scalar.muli v101 c1_i32_370
  let v644 : BitVec 32 := Scalar.addi c0_i32_371 v643
  v644.toNat
def k0_dev17 (d0 : Dev nD) : Nat :=
  let c0_i32_378 : BitVec 32 := 0#32
  let c4_i32_45 : BitVec 32 := 4#32
  let c1_i32_44 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v102 : BitVec 32 := Scalar.subi c1_i32_44 v19
  let v103 : BitVec 32 := Scalar.muli c4_i32_45 v102
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v84 : BitVec 32 := Scalar.subi c3_i32 v29
  let v104 : BitVec 32 := Scalar.addi v103 v84
  let c1_i32_377 : BitVec 32 := 1#32
  let v651 : BitVec 32 := Scalar.muli v104 c1_i32_377
  let v652 : BitVec 32 := Scalar.addi c0_i32_378 v651
  v652.toNat
def k0_dev18 (d0 : Dev nD) : Nat :=
  let c0_i32_385 : BitVec 32 := 0#32
  let c4_i32_46 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v105 : BitVec 32 := Scalar.muli c4_i32_46 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_33 : BitVec 32 := 2#32
  let v85 : BitVec 32 := Scalar.addi v29 c2_i32_33
  let c4_i32_34 : BitVec 32 := 4#32
  let c0_i32_35 : BitVec 32 := 0#32
  let v86 : BitVec 1 := Scalar.cmpi .eq c4_i32_34 c0_i32_35
  let c1_i32_36 : BitVec 32 := 1#32
  let v87 : BitVec 32 := Scalar.select v86 c1_i32_36 c4_i32_34
  let v88 : BitVec 32 := Scalar.remsi v85 v87
  let c0_i32_38 : BitVec 32 := 0#32
  let v90 : BitVec 1 := Scalar.cmpi .slt v88 c0_i32_38
  let c0_i32_39 : BitVec 32 := 0#32
  let v91 : BitVec 1 := Scalar.cmpi .slt v87 c0_i32_39
  let v92 : BitVec 1 := Scalar.xori v90 v91
  let c0_i32_37 : BitVec 32 := 0#32
  let v89 : BitVec 1 := Scalar.cmpi .ne v88 c0_i32_37
  let v93 : BitVec 1 := Scalar.andi v92 v89
  let v94 : BitVec 32 := Scalar.addi v88 v87
  let v95 : BitVec 32 := Scalar.select v93 v94 v88
  let v106 : BitVec 32 := Scalar.addi v105 v95
  let c1_i32_384 : BitVec 32 := 1#32
  let v659 : BitVec 32 := Scalar.muli v106 c1_i32_384
  let v660 : BitVec 32 := Scalar.addi c0_i32_385 v659
  v660.toNat
def k0_dev19 (d0 : Dev nD) : Nat :=
  let c0_i32_392 : BitVec 32 := 0#32
  let c4_i32_47 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v107 : BitVec 32 := Scalar.muli c4_i32_47 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_32 : BitVec 32 := 1#32
  let v83 : BitVec 32 := Scalar.xori v29 c1_i32_32
  let v108 : BitVec 32 := Scalar.addi v107 v83
  let c1_i32_391 : BitVec 32 := 1#32
  let v667 : BitVec 32 := Scalar.muli v108 c1_i32_391
  let v668 : BitVec 32 := Scalar.addi c0_i32_392 v667
  v668.toNat
def k0_dev20 (d0 : Dev nD) : Nat :=
  let c0_i32_399 : BitVec 32 := 0#32
  let c4_i32_48 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v109 : BitVec 32 := Scalar.muli c4_i32_48 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v84 : BitVec 32 := Scalar.subi c3_i32 v29
  let v110 : BitVec 32 := Scalar.addi v109 v84
  let c1_i32_398 : BitVec 32 := 1#32
  let v675 : BitVec 32 := Scalar.muli v110 c1_i32_398
  let v676 : BitVec 32 := Scalar.addi c0_i32_399 v675
  v676.toNat
def k0_dev21 (d0 : Dev nD) : Nat :=
  let c0_i32_406 : BitVec 32 := 0#32
  let c4_i32_50 : BitVec 32 := 4#32
  let c1_i32_49 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v111 : BitVec 32 := Scalar.subi c1_i32_49 v19
  let v112 : BitVec 32 := Scalar.muli c4_i32_50 v111
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v113 : BitVec 32 := Scalar.addi v112 v29
  let c1_i32_405 : BitVec 32 := 1#32
  let v683 : BitVec 32 := Scalar.muli v113 c1_i32_405
  let v684 : BitVec 32 := Scalar.addi c0_i32_406 v683
  v684.toNat
def k0_off10 (d0 : Dev nD) : Fin 2 → Nat :=
  let c4_i32_50 : BitVec 32 := 4#32
  let c1_i32_49 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v111 : BitVec 32 := Scalar.subi c1_i32_49 v19
  let v112 : BitVec 32 := Scalar.muli c4_i32_50 v111
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v113 : BitVec 32 := Scalar.addi v112 v29
  let c0_i32_202 : BitVec 32 := 0#32
  let v433 : BitVec 1 := Scalar.cmpi .sgt v113 c0_i32_202
  let v434 : BitVec 32 := Scalar.extui v433
  let c0_i32_203 : BitVec 32 := 0#32
  let v435 : BitVec 1 := Scalar.cmpi .slt v113 c0_i32_203
  let v436 : BitVec 32 := Scalar.extui v435
  let v437 : BitVec 32 := Scalar.subi v434 v436
  let c4_i32_201 : BitVec 32 := 4#32
  let c0_i32_204 : BitVec 32 := 0#32
  let v438 : BitVec 1 := Scalar.cmpi .sgt c4_i32_201 c0_i32_204
  let v439 : BitVec 32 := Scalar.extui v438
  let c0_i32_205 : BitVec 32 := 0#32
  let v440 : BitVec 1 := Scalar.cmpi .slt c4_i32_201 c0_i32_205
  let v441 : BitVec 32 := Scalar.extui v440
  let v442 : BitVec 32 := Scalar.subi v439 v441
  let v443 : BitVec 1 := Scalar.cmpi .ne v437 v442
  let v444 : BitVec 32 := Scalar.remsi v113 c4_i32_201
  let c0_i32_206 : BitVec 32 := 0#32
  let v445 : BitVec 1 := Scalar.cmpi .ne v444 c0_i32_206
  let v446 : BitVec 1 := Scalar.andi v443 v445
  let v432 : BitVec 32 := Scalar.divsi v113 c4_i32_201
  let c1_i32_207 : BitVec 32 := 1#32
  let v447 : BitVec 32 := Scalar.subi v432 c1_i32_207
  let v448 : BitVec 32 := Scalar.select v446 v447 v432
  let c128_i32_223 : BitVec 32 := 128#32
  let v480 : BitVec 32 := Scalar.muli v448 c128_i32_223
  let c4_i32_208 : BitVec 32 := 4#32
  let c0_i32_209 : BitVec 32 := 0#32
  let v449 : BitVec 1 := Scalar.cmpi .eq c4_i32_208 c0_i32_209
  let c1_i32_210 : BitVec 32 := 1#32
  let v450 : BitVec 32 := Scalar.select v449 c1_i32_210 c4_i32_208
  let v451 : BitVec 32 := Scalar.remsi v113 v450
  let c0_i32_212 : BitVec 32 := 0#32
  let v453 : BitVec 1 := Scalar.cmpi .slt v451 c0_i32_212
  let c0_i32_213 : BitVec 32 := 0#32
  let v454 : BitVec 1 := Scalar.cmpi .slt v450 c0_i32_213
  let v455 : BitVec 1 := Scalar.xori v453 v454
  let c0_i32_211 : BitVec 32 := 0#32
  let v452 : BitVec 1 := Scalar.cmpi .ne v451 c0_i32_211
  let v456 : BitVec 1 := Scalar.andi v455 v452
  let v457 : BitVec 32 := Scalar.addi v451 v450
  let v458 : BitVec 32 := Scalar.select v456 v457 v451
  let c0_i32_215 : BitVec 32 := 0#32
  let v460 : BitVec 1 := Scalar.cmpi .sgt v458 c0_i32_215
  let v461 : BitVec 32 := Scalar.extui v460
  let c0_i32_216 : BitVec 32 := 0#32
  let v462 : BitVec 1 := Scalar.cmpi .slt v458 c0_i32_216
  let v463 : BitVec 32 := Scalar.extui v462
  let v464 : BitVec 32 := Scalar.subi v461 v463
  let c2_i32_214 : BitVec 32 := 2#32
  let c0_i32_217 : BitVec 32 := 0#32
  let v465 : BitVec 1 := Scalar.cmpi .sgt c2_i32_214 c0_i32_217
  let v466 : BitVec 32 := Scalar.extui v465
  let c0_i32_218 : BitVec 32 := 0#32
  let v467 : BitVec 1 := Scalar.cmpi .slt c2_i32_214 c0_i32_218
  let v468 : BitVec 32 := Scalar.extui v467
  let v469 : BitVec 32 := Scalar.subi v466 v468
  let v470 : BitVec 1 := Scalar.cmpi .ne v464 v469
  let v471 : BitVec 32 := Scalar.remsi v458 c2_i32_214
  let c0_i32_219 : BitVec 32 := 0#32
  let v472 : BitVec 1 := Scalar.cmpi .ne v471 c0_i32_219
  let v473 : BitVec 1 := Scalar.andi v470 v472
  let v459 : BitVec 32 := Scalar.divsi v458 c2_i32_214
  let c1_i32_220 : BitVec 32 := 1#32
  let v474 : BitVec 32 := Scalar.subi v459 c1_i32_220
  let v475 : BitVec 32 := Scalar.select v473 v474 v459
  let c64_i32_224 : BitVec 32 := 64#32
  let v481 : BitVec 32 := Scalar.muli v475 c64_i32_224
  let v482 : BitVec 32 := Scalar.addi v480 v481
  let c1_i32_221 : BitVec 32 := 1#32
  let v476 : BitVec 1 := Scalar.cmpi .eq v458 c1_i32_221
  let c2_i32_222 : BitVec 32 := 2#32
  let v477 : BitVec 1 := Scalar.cmpi .eq v458 c2_i32_222
  let v478 : BitVec 1 := Scalar.ori v476 v477
  let v479 : BitVec 32 := Scalar.extui v478
  let c32_i32_225 : BitVec 32 := 32#32
  let v483 : BitVec 32 := Scalar.muli v479 c32_i32_225
  let v484 : BitVec 32 := Scalar.addi v482 v483
  let v699 : Index := Scalar.indexCast v484
  let c0_420 : Index := 0#32
  ![v699.toNat, 0]
def k0_off11 (d0 : Dev nD) : Fin 2 → Nat :=
  let c4_i32_48 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v109 : BitVec 32 := Scalar.muli c4_i32_48 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v84 : BitVec 32 := Scalar.subi c3_i32 v29
  let v110 : BitVec 32 := Scalar.addi v109 v84
  let c0_i32_177 : BitVec 32 := 0#32
  let v380 : BitVec 1 := Scalar.cmpi .sgt v110 c0_i32_177
  let v381 : BitVec 32 := Scalar.extui v380
  let c0_i32_178 : BitVec 32 := 0#32
  let v382 : BitVec 1 := Scalar.cmpi .slt v110 c0_i32_178
  let v383 : BitVec 32 := Scalar.extui v382
  let v384 : BitVec 32 := Scalar.subi v381 v383
  let c4_i32_176 : BitVec 32 := 4#32
  let c0_i32_179 : BitVec 32 := 0#32
  let v385 : BitVec 1 := Scalar.cmpi .sgt c4_i32_176 c0_i32_179
  let v386 : BitVec 32 := Scalar.extui v385
  let c0_i32_180 : BitVec 32 := 0#32
  let v387 : BitVec 1 := Scalar.cmpi .slt c4_i32_176 c0_i32_180
  let v388 : BitVec 32 := Scalar.extui v387
  let v389 : BitVec 32 := Scalar.subi v386 v388
  let v390 : BitVec 1 := Scalar.cmpi .ne v384 v389
  let v391 : BitVec 32 := Scalar.remsi v110 c4_i32_176
  let c0_i32_181 : BitVec 32 := 0#32
  let v392 : BitVec 1 := Scalar.cmpi .ne v391 c0_i32_181
  let v393 : BitVec 1 := Scalar.andi v390 v392
  let v379 : BitVec 32 := Scalar.divsi v110 c4_i32_176
  let c1_i32_182 : BitVec 32 := 1#32
  let v394 : BitVec 32 := Scalar.subi v379 c1_i32_182
  let v395 : BitVec 32 := Scalar.select v393 v394 v379
  let c128_i32_198 : BitVec 32 := 128#32
  let v427 : BitVec 32 := Scalar.muli v395 c128_i32_198
  let c4_i32_183 : BitVec 32 := 4#32
  let c0_i32_184 : BitVec 32 := 0#32
  let v396 : BitVec 1 := Scalar.cmpi .eq c4_i32_183 c0_i32_184
  let c1_i32_185 : BitVec 32 := 1#32
  let v397 : BitVec 32 := Scalar.select v396 c1_i32_185 c4_i32_183
  let v398 : BitVec 32 := Scalar.remsi v110 v397
  let c0_i32_187 : BitVec 32 := 0#32
  let v400 : BitVec 1 := Scalar.cmpi .slt v398 c0_i32_187
  let c0_i32_188 : BitVec 32 := 0#32
  let v401 : BitVec 1 := Scalar.cmpi .slt v397 c0_i32_188
  let v402 : BitVec 1 := Scalar.xori v400 v401
  let c0_i32_186 : BitVec 32 := 0#32
  let v399 : BitVec 1 := Scalar.cmpi .ne v398 c0_i32_186
  let v403 : BitVec 1 := Scalar.andi v402 v399
  let v404 : BitVec 32 := Scalar.addi v398 v397
  let v405 : BitVec 32 := Scalar.select v403 v404 v398
  let c0_i32_190 : BitVec 32 := 0#32
  let v407 : BitVec 1 := Scalar.cmpi .sgt v405 c0_i32_190
  let v408 : BitVec 32 := Scalar.extui v407
  let c0_i32_191 : BitVec 32 := 0#32
  let v409 : BitVec 1 := Scalar.cmpi .slt v405 c0_i32_191
  let v410 : BitVec 32 := Scalar.extui v409
  let v411 : BitVec 32 := Scalar.subi v408 v410
  let c2_i32_189 : BitVec 32 := 2#32
  let c0_i32_192 : BitVec 32 := 0#32
  let v412 : BitVec 1 := Scalar.cmpi .sgt c2_i32_189 c0_i32_192
  let v413 : BitVec 32 := Scalar.extui v412
  let c0_i32_193 : BitVec 32 := 0#32
  let v414 : BitVec 1 := Scalar.cmpi .slt c2_i32_189 c0_i32_193
  let v415 : BitVec 32 := Scalar.extui v414
  let v416 : BitVec 32 := Scalar.subi v413 v415
  let v417 : BitVec 1 := Scalar.cmpi .ne v411 v416
  let v418 : BitVec 32 := Scalar.remsi v405 c2_i32_189
  let c0_i32_194 : BitVec 32 := 0#32
  let v419 : BitVec 1 := Scalar.cmpi .ne v418 c0_i32_194
  let v420 : BitVec 1 := Scalar.andi v417 v419
  let v406 : BitVec 32 := Scalar.divsi v405 c2_i32_189
  let c1_i32_195 : BitVec 32 := 1#32
  let v421 : BitVec 32 := Scalar.subi v406 c1_i32_195
  let v422 : BitVec 32 := Scalar.select v420 v421 v406
  let c64_i32_199 : BitVec 32 := 64#32
  let v428 : BitVec 32 := Scalar.muli v422 c64_i32_199
  let v429 : BitVec 32 := Scalar.addi v427 v428
  let c1_i32_196 : BitVec 32 := 1#32
  let v423 : BitVec 1 := Scalar.cmpi .eq v405 c1_i32_196
  let c2_i32_197 : BitVec 32 := 2#32
  let v424 : BitVec 1 := Scalar.cmpi .eq v405 c2_i32_197
  let v425 : BitVec 1 := Scalar.ori v423 v424
  let v426 : BitVec 32 := Scalar.extui v425
  let c32_i32_200 : BitVec 32 := 32#32
  let v430 : BitVec 32 := Scalar.muli v426 c32_i32_200
  let v431 : BitVec 32 := Scalar.addi v429 v430
  let v709 : Index := Scalar.indexCast v431
  let c0_431 : Index := 0#32
  ![v709.toNat, 0]
def k0_off12 (d0 : Dev nD) : Fin 2 → Nat :=
  let c4_i32_47 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v107 : BitVec 32 := Scalar.muli c4_i32_47 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_32 : BitVec 32 := 1#32
  let v83 : BitVec 32 := Scalar.xori v29 c1_i32_32
  let v108 : BitVec 32 := Scalar.addi v107 v83
  let c0_i32_152 : BitVec 32 := 0#32
  let v327 : BitVec 1 := Scalar.cmpi .sgt v108 c0_i32_152
  let v328 : BitVec 32 := Scalar.extui v327
  let c0_i32_153 : BitVec 32 := 0#32
  let v329 : BitVec 1 := Scalar.cmpi .slt v108 c0_i32_153
  let v330 : BitVec 32 := Scalar.extui v329
  let v331 : BitVec 32 := Scalar.subi v328 v330
  let c4_i32_151 : BitVec 32 := 4#32
  let c0_i32_154 : BitVec 32 := 0#32
  let v332 : BitVec 1 := Scalar.cmpi .sgt c4_i32_151 c0_i32_154
  let v333 : BitVec 32 := Scalar.extui v332
  let c0_i32_155 : BitVec 32 := 0#32
  let v334 : BitVec 1 := Scalar.cmpi .slt c4_i32_151 c0_i32_155
  let v335 : BitVec 32 := Scalar.extui v334
  let v336 : BitVec 32 := Scalar.subi v333 v335
  let v337 : BitVec 1 := Scalar.cmpi .ne v331 v336
  let v338 : BitVec 32 := Scalar.remsi v108 c4_i32_151
  let c0_i32_156 : BitVec 32 := 0#32
  let v339 : BitVec 1 := Scalar.cmpi .ne v338 c0_i32_156
  let v340 : BitVec 1 := Scalar.andi v337 v339
  let v326 : BitVec 32 := Scalar.divsi v108 c4_i32_151
  let c1_i32_157 : BitVec 32 := 1#32
  let v341 : BitVec 32 := Scalar.subi v326 c1_i32_157
  let v342 : BitVec 32 := Scalar.select v340 v341 v326
  let c128_i32_173 : BitVec 32 := 128#32
  let v374 : BitVec 32 := Scalar.muli v342 c128_i32_173
  let c4_i32_158 : BitVec 32 := 4#32
  let c0_i32_159 : BitVec 32 := 0#32
  let v343 : BitVec 1 := Scalar.cmpi .eq c4_i32_158 c0_i32_159
  let c1_i32_160 : BitVec 32 := 1#32
  let v344 : BitVec 32 := Scalar.select v343 c1_i32_160 c4_i32_158
  let v345 : BitVec 32 := Scalar.remsi v108 v344
  let c0_i32_162 : BitVec 32 := 0#32
  let v347 : BitVec 1 := Scalar.cmpi .slt v345 c0_i32_162
  let c0_i32_163 : BitVec 32 := 0#32
  let v348 : BitVec 1 := Scalar.cmpi .slt v344 c0_i32_163
  let v349 : BitVec 1 := Scalar.xori v347 v348
  let c0_i32_161 : BitVec 32 := 0#32
  let v346 : BitVec 1 := Scalar.cmpi .ne v345 c0_i32_161
  let v350 : BitVec 1 := Scalar.andi v349 v346
  let v351 : BitVec 32 := Scalar.addi v345 v344
  let v352 : BitVec 32 := Scalar.select v350 v351 v345
  let c0_i32_165 : BitVec 32 := 0#32
  let v354 : BitVec 1 := Scalar.cmpi .sgt v352 c0_i32_165
  let v355 : BitVec 32 := Scalar.extui v354
  let c0_i32_166 : BitVec 32 := 0#32
  let v356 : BitVec 1 := Scalar.cmpi .slt v352 c0_i32_166
  let v357 : BitVec 32 := Scalar.extui v356
  let v358 : BitVec 32 := Scalar.subi v355 v357
  let c2_i32_164 : BitVec 32 := 2#32
  let c0_i32_167 : BitVec 32 := 0#32
  let v359 : BitVec 1 := Scalar.cmpi .sgt c2_i32_164 c0_i32_167
  let v360 : BitVec 32 := Scalar.extui v359
  let c0_i32_168 : BitVec 32 := 0#32
  let v361 : BitVec 1 := Scalar.cmpi .slt c2_i32_164 c0_i32_168
  let v362 : BitVec 32 := Scalar.extui v361
  let v363 : BitVec 32 := Scalar.subi v360 v362
  let v364 : BitVec 1 := Scalar.cmpi .ne v358 v363
  let v365 : BitVec 32 := Scalar.remsi v352 c2_i32_164
  let c0_i32_169 : BitVec 32 := 0#32
  let v366 : BitVec 1 := Scalar.cmpi .ne v365 c0_i32_169
  let v367 : BitVec 1 := Scalar.andi v364 v366
  let v353 : BitVec 32 := Scalar.divsi v352 c2_i32_164
  let c1_i32_170 : BitVec 32 := 1#32
  let v368 : BitVec 32 := Scalar.subi v353 c1_i32_170
  let v369 : BitVec 32 := Scalar.select v367 v368 v353
  let c64_i32_174 : BitVec 32 := 64#32
  let v375 : BitVec 32 := Scalar.muli v369 c64_i32_174
  let v376 : BitVec 32 := Scalar.addi v374 v375
  let c1_i32_171 : BitVec 32 := 1#32
  let v370 : BitVec 1 := Scalar.cmpi .eq v352 c1_i32_171
  let c2_i32_172 : BitVec 32 := 2#32
  let v371 : BitVec 1 := Scalar.cmpi .eq v352 c2_i32_172
  let v372 : BitVec 1 := Scalar.ori v370 v371
  let v373 : BitVec 32 := Scalar.extui v372
  let c32_i32_175 : BitVec 32 := 32#32
  let v377 : BitVec 32 := Scalar.muli v373 c32_i32_175
  let v378 : BitVec 32 := Scalar.addi v376 v377
  let v719 : Index := Scalar.indexCast v378
  let c0_442 : Index := 0#32
  ![v719.toNat, 0]
def k0_off13 (d0 : Dev nD) : Fin 2 → Nat :=
  let c4_i32_46 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v105 : BitVec 32 := Scalar.muli c4_i32_46 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_33 : BitVec 32 := 2#32
  let v85 : BitVec 32 := Scalar.addi v29 c2_i32_33
  let c4_i32_34 : BitVec 32 := 4#32
  let c0_i32_35 : BitVec 32 := 0#32
  let v86 : BitVec 1 := Scalar.cmpi .eq c4_i32_34 c0_i32_35
  let c1_i32_36 : BitVec 32 := 1#32
  let v87 : BitVec 32 := Scalar.select v86 c1_i32_36 c4_i32_34
  let v88 : BitVec 32 := Scalar.remsi v85 v87
  let c0_i32_38 : BitVec 32 := 0#32
  let v90 : BitVec 1 := Scalar.cmpi .slt v88 c0_i32_38
  let c0_i32_39 : BitVec 32 := 0#32
  let v91 : BitVec 1 := Scalar.cmpi .slt v87 c0_i32_39
  let v92 : BitVec 1 := Scalar.xori v90 v91
  let c0_i32_37 : BitVec 32 := 0#32
  let v89 : BitVec 1 := Scalar.cmpi .ne v88 c0_i32_37
  let v93 : BitVec 1 := Scalar.andi v92 v89
  let v94 : BitVec 32 := Scalar.addi v88 v87
  let v95 : BitVec 32 := Scalar.select v93 v94 v88
  let v106 : BitVec 32 := Scalar.addi v105 v95
  let c0_i32_127 : BitVec 32 := 0#32
  let v274 : BitVec 1 := Scalar.cmpi .sgt v106 c0_i32_127
  let v275 : BitVec 32 := Scalar.extui v274
  let c0_i32_128 : BitVec 32 := 0#32
  let v276 : BitVec 1 := Scalar.cmpi .slt v106 c0_i32_128
  let v277 : BitVec 32 := Scalar.extui v276
  let v278 : BitVec 32 := Scalar.subi v275 v277
  let c4_i32_126 : BitVec 32 := 4#32
  let c0_i32_129 : BitVec 32 := 0#32
  let v279 : BitVec 1 := Scalar.cmpi .sgt c4_i32_126 c0_i32_129
  let v280 : BitVec 32 := Scalar.extui v279
  let c0_i32_130 : BitVec 32 := 0#32
  let v281 : BitVec 1 := Scalar.cmpi .slt c4_i32_126 c0_i32_130
  let v282 : BitVec 32 := Scalar.extui v281
  let v283 : BitVec 32 := Scalar.subi v280 v282
  let v284 : BitVec 1 := Scalar.cmpi .ne v278 v283
  let v285 : BitVec 32 := Scalar.remsi v106 c4_i32_126
  let c0_i32_131 : BitVec 32 := 0#32
  let v286 : BitVec 1 := Scalar.cmpi .ne v285 c0_i32_131
  let v287 : BitVec 1 := Scalar.andi v284 v286
  let v273 : BitVec 32 := Scalar.divsi v106 c4_i32_126
  let c1_i32_132 : BitVec 32 := 1#32
  let v288 : BitVec 32 := Scalar.subi v273 c1_i32_132
  let v289 : BitVec 32 := Scalar.select v287 v288 v273
  let c128_i32_148 : BitVec 32 := 128#32
  let v321 : BitVec 32 := Scalar.muli v289 c128_i32_148
  let c4_i32_133 : BitVec 32 := 4#32
  let c0_i32_134 : BitVec 32 := 0#32
  let v290 : BitVec 1 := Scalar.cmpi .eq c4_i32_133 c0_i32_134
  let c1_i32_135 : BitVec 32 := 1#32
  let v291 : BitVec 32 := Scalar.select v290 c1_i32_135 c4_i32_133
  let v292 : BitVec 32 := Scalar.remsi v106 v291
  let c0_i32_137 : BitVec 32 := 0#32
  let v294 : BitVec 1 := Scalar.cmpi .slt v292 c0_i32_137
  let c0_i32_138 : BitVec 32 := 0#32
  let v295 : BitVec 1 := Scalar.cmpi .slt v291 c0_i32_138
  let v296 : BitVec 1 := Scalar.xori v294 v295
  let c0_i32_136 : BitVec 32 := 0#32
  let v293 : BitVec 1 := Scalar.cmpi .ne v292 c0_i32_136
  let v297 : BitVec 1 := Scalar.andi v296 v293
  let v298 : BitVec 32 := Scalar.addi v292 v291
  let v299 : BitVec 32 := Scalar.select v297 v298 v292
  let c0_i32_140 : BitVec 32 := 0#32
  let v301 : BitVec 1 := Scalar.cmpi .sgt v299 c0_i32_140
  let v302 : BitVec 32 := Scalar.extui v301
  let c0_i32_141 : BitVec 32 := 0#32
  let v303 : BitVec 1 := Scalar.cmpi .slt v299 c0_i32_141
  let v304 : BitVec 32 := Scalar.extui v303
  let v305 : BitVec 32 := Scalar.subi v302 v304
  let c2_i32_139 : BitVec 32 := 2#32
  let c0_i32_142 : BitVec 32 := 0#32
  let v306 : BitVec 1 := Scalar.cmpi .sgt c2_i32_139 c0_i32_142
  let v307 : BitVec 32 := Scalar.extui v306
  let c0_i32_143 : BitVec 32 := 0#32
  let v308 : BitVec 1 := Scalar.cmpi .slt c2_i32_139 c0_i32_143
  let v309 : BitVec 32 := Scalar.extui v308
  let v310 : BitVec 32 := Scalar.subi v307 v309
  let v311 : BitVec 1 := Scalar.cmpi .ne v305 v310
  let v312 : BitVec 32 := Scalar.remsi v299 c2_i32_139
  let c0_i32_144 : BitVec 32 := 0#32
  let v313 : BitVec 1 := Scalar.cmpi .ne v312 c0_i32_144
  let v314 : BitVec 1 := Scalar.andi v311 v313
  let v300 : BitVec 32 := Scalar.divsi v299 c2_i32_139
  let c1_i32_145 : BitVec 32 := 1#32
  let v315 : BitVec 32 := Scalar.subi v300 c1_i32_145
  let v316 : BitVec 32 := Scalar.select v314 v315 v300
  let c64_i32_149 : BitVec 32 := 64#32
  let v322 : BitVec 32 := Scalar.muli v316 c64_i32_149
  let v323 : BitVec 32 := Scalar.addi v321 v322
  let c1_i32_146 : BitVec 32 := 1#32
  let v317 : BitVec 1 := Scalar.cmpi .eq v299 c1_i32_146
  let c2_i32_147 : BitVec 32 := 2#32
  let v318 : BitVec 1 := Scalar.cmpi .eq v299 c2_i32_147
  let v319 : BitVec 1 := Scalar.ori v317 v318
  let v320 : BitVec 32 := Scalar.extui v319
  let c32_i32_150 : BitVec 32 := 32#32
  let v324 : BitVec 32 := Scalar.muli v320 c32_i32_150
  let v325 : BitVec 32 := Scalar.addi v323 v324
  let v729 : Index := Scalar.indexCast v325
  let c0_453 : Index := 0#32
  ![v729.toNat, 0]
def k0_off14 (d0 : Dev nD) : Fin 2 → Nat :=
  let c4_i32_45 : BitVec 32 := 4#32
  let c1_i32_44 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v102 : BitVec 32 := Scalar.subi c1_i32_44 v19
  let v103 : BitVec 32 := Scalar.muli c4_i32_45 v102
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v84 : BitVec 32 := Scalar.subi c3_i32 v29
  let v104 : BitVec 32 := Scalar.addi v103 v84
  let c0_i32_102 : BitVec 32 := 0#32
  let v221 : BitVec 1 := Scalar.cmpi .sgt v104 c0_i32_102
  let v222 : BitVec 32 := Scalar.extui v221
  let c0_i32_103 : BitVec 32 := 0#32
  let v223 : BitVec 1 := Scalar.cmpi .slt v104 c0_i32_103
  let v224 : BitVec 32 := Scalar.extui v223
  let v225 : BitVec 32 := Scalar.subi v222 v224
  let c4_i32_101 : BitVec 32 := 4#32
  let c0_i32_104 : BitVec 32 := 0#32
  let v226 : BitVec 1 := Scalar.cmpi .sgt c4_i32_101 c0_i32_104
  let v227 : BitVec 32 := Scalar.extui v226
  let c0_i32_105 : BitVec 32 := 0#32
  let v228 : BitVec 1 := Scalar.cmpi .slt c4_i32_101 c0_i32_105
  let v229 : BitVec 32 := Scalar.extui v228
  let v230 : BitVec 32 := Scalar.subi v227 v229
  let v231 : BitVec 1 := Scalar.cmpi .ne v225 v230
  let v232 : BitVec 32 := Scalar.remsi v104 c4_i32_101
  let c0_i32_106 : BitVec 32 := 0#32
  let v233 : BitVec 1 := Scalar.cmpi .ne v232 c0_i32_106
  let v234 : BitVec 1 := Scalar.andi v231 v233
  let v220 : BitVec 32 := Scalar.divsi v104 c4_i32_101
  let c1_i32_107 : BitVec 32 := 1#32
  let v235 : BitVec 32 := Scalar.subi v220 c1_i32_107
  let v236 : BitVec 32 := Scalar.select v234 v235 v220
  let c128_i32_123 : BitVec 32 := 128#32
  let v268 : BitVec 32 := Scalar.muli v236 c128_i32_123
  let c4_i32_108 : BitVec 32 := 4#32
  let c0_i32_109 : BitVec 32 := 0#32
  let v237 : BitVec 1 := Scalar.cmpi .eq c4_i32_108 c0_i32_109
  let c1_i32_110 : BitVec 32 := 1#32
  let v238 : BitVec 32 := Scalar.select v237 c1_i32_110 c4_i32_108
  let v239 : BitVec 32 := Scalar.remsi v104 v238
  let c0_i32_112 : BitVec 32 := 0#32
  let v241 : BitVec 1 := Scalar.cmpi .slt v239 c0_i32_112
  let c0_i32_113 : BitVec 32 := 0#32
  let v242 : BitVec 1 := Scalar.cmpi .slt v238 c0_i32_113
  let v243 : BitVec 1 := Scalar.xori v241 v242
  let c0_i32_111 : BitVec 32 := 0#32
  let v240 : BitVec 1 := Scalar.cmpi .ne v239 c0_i32_111
  let v244 : BitVec 1 := Scalar.andi v243 v240
  let v245 : BitVec 32 := Scalar.addi v239 v238
  let v246 : BitVec 32 := Scalar.select v244 v245 v239
  let c0_i32_115 : BitVec 32 := 0#32
  let v248 : BitVec 1 := Scalar.cmpi .sgt v246 c0_i32_115
  let v249 : BitVec 32 := Scalar.extui v248
  let c0_i32_116 : BitVec 32 := 0#32
  let v250 : BitVec 1 := Scalar.cmpi .slt v246 c0_i32_116
  let v251 : BitVec 32 := Scalar.extui v250
  let v252 : BitVec 32 := Scalar.subi v249 v251
  let c2_i32_114 : BitVec 32 := 2#32
  let c0_i32_117 : BitVec 32 := 0#32
  let v253 : BitVec 1 := Scalar.cmpi .sgt c2_i32_114 c0_i32_117
  let v254 : BitVec 32 := Scalar.extui v253
  let c0_i32_118 : BitVec 32 := 0#32
  let v255 : BitVec 1 := Scalar.cmpi .slt c2_i32_114 c0_i32_118
  let v256 : BitVec 32 := Scalar.extui v255
  let v257 : BitVec 32 := Scalar.subi v254 v256
  let v258 : BitVec 1 := Scalar.cmpi .ne v252 v257
  let v259 : BitVec 32 := Scalar.remsi v246 c2_i32_114
  let c0_i32_119 : BitVec 32 := 0#32
  let v260 : BitVec 1 := Scalar.cmpi .ne v259 c0_i32_119
  let v261 : BitVec 1 := Scalar.andi v258 v260
  let v247 : BitVec 32 := Scalar.divsi v246 c2_i32_114
  let c1_i32_120 : BitVec 32 := 1#32
  let v262 : BitVec 32 := Scalar.subi v247 c1_i32_120
  let v263 : BitVec 32 := Scalar.select v261 v262 v247
  let c64_i32_124 : BitVec 32 := 64#32
  let v269 : BitVec 32 := Scalar.muli v263 c64_i32_124
  let v270 : BitVec 32 := Scalar.addi v268 v269
  let c1_i32_121 : BitVec 32 := 1#32
  let v264 : BitVec 1 := Scalar.cmpi .eq v246 c1_i32_121
  let c2_i32_122 : BitVec 32 := 2#32
  let v265 : BitVec 1 := Scalar.cmpi .eq v246 c2_i32_122
  let v266 : BitVec 1 := Scalar.ori v264 v265
  let v267 : BitVec 32 := Scalar.extui v266
  let c32_i32_125 : BitVec 32 := 32#32
  let v271 : BitVec 32 := Scalar.muli v267 c32_i32_125
  let v272 : BitVec 32 := Scalar.addi v270 v271
  let v739 : Index := Scalar.indexCast v272
  let c0_464 : Index := 0#32
  ![v739.toNat, 0]
def k0_off15 (d0 : Dev nD) : Fin 2 → Nat :=
  let c4_i32_43 : BitVec 32 := 4#32
  let c1_i32_42 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v99 : BitVec 32 := Scalar.subi c1_i32_42 v19
  let v100 : BitVec 32 := Scalar.muli c4_i32_43 v99
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_32 : BitVec 32 := 1#32
  let v83 : BitVec 32 := Scalar.xori v29 c1_i32_32
  let v101 : BitVec 32 := Scalar.addi v100 v83
  let c0_i32_77 : BitVec 32 := 0#32
  let v168 : BitVec 1 := Scalar.cmpi .sgt v101 c0_i32_77
  let v169 : BitVec 32 := Scalar.extui v168
  let c0_i32_78 : BitVec 32 := 0#32
  let v170 : BitVec 1 := Scalar.cmpi .slt v101 c0_i32_78
  let v171 : BitVec 32 := Scalar.extui v170
  let v172 : BitVec 32 := Scalar.subi v169 v171
  let c4_i32_76 : BitVec 32 := 4#32
  let c0_i32_79 : BitVec 32 := 0#32
  let v173 : BitVec 1 := Scalar.cmpi .sgt c4_i32_76 c0_i32_79
  let v174 : BitVec 32 := Scalar.extui v173
  let c0_i32_80 : BitVec 32 := 0#32
  let v175 : BitVec 1 := Scalar.cmpi .slt c4_i32_76 c0_i32_80
  let v176 : BitVec 32 := Scalar.extui v175
  let v177 : BitVec 32 := Scalar.subi v174 v176
  let v178 : BitVec 1 := Scalar.cmpi .ne v172 v177
  let v179 : BitVec 32 := Scalar.remsi v101 c4_i32_76
  let c0_i32_81 : BitVec 32 := 0#32
  let v180 : BitVec 1 := Scalar.cmpi .ne v179 c0_i32_81
  let v181 : BitVec 1 := Scalar.andi v178 v180
  let v167 : BitVec 32 := Scalar.divsi v101 c4_i32_76
  let c1_i32_82 : BitVec 32 := 1#32
  let v182 : BitVec 32 := Scalar.subi v167 c1_i32_82
  let v183 : BitVec 32 := Scalar.select v181 v182 v167
  let c128_i32_98 : BitVec 32 := 128#32
  let v215 : BitVec 32 := Scalar.muli v183 c128_i32_98
  let c4_i32_83 : BitVec 32 := 4#32
  let c0_i32_84 : BitVec 32 := 0#32
  let v184 : BitVec 1 := Scalar.cmpi .eq c4_i32_83 c0_i32_84
  let c1_i32_85 : BitVec 32 := 1#32
  let v185 : BitVec 32 := Scalar.select v184 c1_i32_85 c4_i32_83
  let v186 : BitVec 32 := Scalar.remsi v101 v185
  let c0_i32_87 : BitVec 32 := 0#32
  let v188 : BitVec 1 := Scalar.cmpi .slt v186 c0_i32_87
  let c0_i32_88 : BitVec 32 := 0#32
  let v189 : BitVec 1 := Scalar.cmpi .slt v185 c0_i32_88
  let v190 : BitVec 1 := Scalar.xori v188 v189
  let c0_i32_86 : BitVec 32 := 0#32
  let v187 : BitVec 1 := Scalar.cmpi .ne v186 c0_i32_86
  let v191 : BitVec 1 := Scalar.andi v190 v187
  let v192 : BitVec 32 := Scalar.addi v186 v185
  let v193 : BitVec 32 := Scalar.select v191 v192 v186
  let c0_i32_90 : BitVec 32 := 0#32
  let v195 : BitVec 1 := Scalar.cmpi .sgt v193 c0_i32_90
  let v196 : BitVec 32 := Scalar.extui v195
  let c0_i32_91 : BitVec 32 := 0#32
  let v197 : BitVec 1 := Scalar.cmpi .slt v193 c0_i32_91
  let v198 : BitVec 32 := Scalar.extui v197
  let v199 : BitVec 32 := Scalar.subi v196 v198
  let c2_i32_89 : BitVec 32 := 2#32
  let c0_i32_92 : BitVec 32 := 0#32
  let v200 : BitVec 1 := Scalar.cmpi .sgt c2_i32_89 c0_i32_92
  let v201 : BitVec 32 := Scalar.extui v200
  let c0_i32_93 : BitVec 32 := 0#32
  let v202 : BitVec 1 := Scalar.cmpi .slt c2_i32_89 c0_i32_93
  let v203 : BitVec 32 := Scalar.extui v202
  let v204 : BitVec 32 := Scalar.subi v201 v203
  let v205 : BitVec 1 := Scalar.cmpi .ne v199 v204
  let v206 : BitVec 32 := Scalar.remsi v193 c2_i32_89
  let c0_i32_94 : BitVec 32 := 0#32
  let v207 : BitVec 1 := Scalar.cmpi .ne v206 c0_i32_94
  let v208 : BitVec 1 := Scalar.andi v205 v207
  let v194 : BitVec 32 := Scalar.divsi v193 c2_i32_89
  let c1_i32_95 : BitVec 32 := 1#32
  let v209 : BitVec 32 := Scalar.subi v194 c1_i32_95
  let v210 : BitVec 32 := Scalar.select v208 v209 v194
  let c64_i32_99 : BitVec 32 := 64#32
  let v216 : BitVec 32 := Scalar.muli v210 c64_i32_99
  let v217 : BitVec 32 := Scalar.addi v215 v216
  let c1_i32_96 : BitVec 32 := 1#32
  let v211 : BitVec 1 := Scalar.cmpi .eq v193 c1_i32_96
  let c2_i32_97 : BitVec 32 := 2#32
  let v212 : BitVec 1 := Scalar.cmpi .eq v193 c2_i32_97
  let v213 : BitVec 1 := Scalar.ori v211 v212
  let v214 : BitVec 32 := Scalar.extui v213
  let c32_i32_100 : BitVec 32 := 32#32
  let v218 : BitVec 32 := Scalar.muli v214 c32_i32_100
  let v219 : BitVec 32 := Scalar.addi v217 v218
  let v749 : Index := Scalar.indexCast v219
  let c0_475 : Index := 0#32
  ![v749.toNat, 0]
def k0_off16 (d0 : Dev nD) : Fin 2 → Nat :=
  let c4_i32_41 : BitVec 32 := 4#32
  let c1_i32_40 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v96 : BitVec 32 := Scalar.subi c1_i32_40 v19
  let v97 : BitVec 32 := Scalar.muli c4_i32_41 v96
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_33 : BitVec 32 := 2#32
  let v85 : BitVec 32 := Scalar.addi v29 c2_i32_33
  let c4_i32_34 : BitVec 32 := 4#32
  let c0_i32_35 : BitVec 32 := 0#32
  let v86 : BitVec 1 := Scalar.cmpi .eq c4_i32_34 c0_i32_35
  let c1_i32_36 : BitVec 32 := 1#32
  let v87 : BitVec 32 := Scalar.select v86 c1_i32_36 c4_i32_34
  let v88 : BitVec 32 := Scalar.remsi v85 v87
  let c0_i32_38 : BitVec 32 := 0#32
  let v90 : BitVec 1 := Scalar.cmpi .slt v88 c0_i32_38
  let c0_i32_39 : BitVec 32 := 0#32
  let v91 : BitVec 1 := Scalar.cmpi .slt v87 c0_i32_39
  let v92 : BitVec 1 := Scalar.xori v90 v91
  let c0_i32_37 : BitVec 32 := 0#32
  let v89 : BitVec 1 := Scalar.cmpi .ne v88 c0_i32_37
  let v93 : BitVec 1 := Scalar.andi v92 v89
  let v94 : BitVec 32 := Scalar.addi v88 v87
  let v95 : BitVec 32 := Scalar.select v93 v94 v88
  let v98 : BitVec 32 := Scalar.addi v97 v95
  let c0_i32_52 : BitVec 32 := 0#32
  let v115 : BitVec 1 := Scalar.cmpi .sgt v98 c0_i32_52
  let v116 : BitVec 32 := Scalar.extui v115
  let c0_i32_53 : BitVec 32 := 0#32
  let v117 : BitVec 1 := Scalar.cmpi .slt v98 c0_i32_53
  let v118 : BitVec 32 := Scalar.extui v117
  let v119 : BitVec 32 := Scalar.subi v116 v118
  let c4_i32_51 : BitVec 32 := 4#32
  let c0_i32_54 : BitVec 32 := 0#32
  let v120 : BitVec 1 := Scalar.cmpi .sgt c4_i32_51 c0_i32_54
  let v121 : BitVec 32 := Scalar.extui v120
  let c0_i32_55 : BitVec 32 := 0#32
  let v122 : BitVec 1 := Scalar.cmpi .slt c4_i32_51 c0_i32_55
  let v123 : BitVec 32 := Scalar.extui v122
  let v124 : BitVec 32 := Scalar.subi v121 v123
  let v125 : BitVec 1 := Scalar.cmpi .ne v119 v124
  let v126 : BitVec 32 := Scalar.remsi v98 c4_i32_51
  let c0_i32_56 : BitVec 32 := 0#32
  let v127 : BitVec 1 := Scalar.cmpi .ne v126 c0_i32_56
  let v128 : BitVec 1 := Scalar.andi v125 v127
  let v114 : BitVec 32 := Scalar.divsi v98 c4_i32_51
  let c1_i32_57 : BitVec 32 := 1#32
  let v129 : BitVec 32 := Scalar.subi v114 c1_i32_57
  let v130 : BitVec 32 := Scalar.select v128 v129 v114
  let c128_i32_73 : BitVec 32 := 128#32
  let v162 : BitVec 32 := Scalar.muli v130 c128_i32_73
  let c4_i32_58 : BitVec 32 := 4#32
  let c0_i32_59 : BitVec 32 := 0#32
  let v131 : BitVec 1 := Scalar.cmpi .eq c4_i32_58 c0_i32_59
  let c1_i32_60 : BitVec 32 := 1#32
  let v132 : BitVec 32 := Scalar.select v131 c1_i32_60 c4_i32_58
  let v133 : BitVec 32 := Scalar.remsi v98 v132
  let c0_i32_62 : BitVec 32 := 0#32
  let v135 : BitVec 1 := Scalar.cmpi .slt v133 c0_i32_62
  let c0_i32_63 : BitVec 32 := 0#32
  let v136 : BitVec 1 := Scalar.cmpi .slt v132 c0_i32_63
  let v137 : BitVec 1 := Scalar.xori v135 v136
  let c0_i32_61 : BitVec 32 := 0#32
  let v134 : BitVec 1 := Scalar.cmpi .ne v133 c0_i32_61
  let v138 : BitVec 1 := Scalar.andi v137 v134
  let v139 : BitVec 32 := Scalar.addi v133 v132
  let v140 : BitVec 32 := Scalar.select v138 v139 v133
  let c0_i32_65 : BitVec 32 := 0#32
  let v142 : BitVec 1 := Scalar.cmpi .sgt v140 c0_i32_65
  let v143 : BitVec 32 := Scalar.extui v142
  let c0_i32_66 : BitVec 32 := 0#32
  let v144 : BitVec 1 := Scalar.cmpi .slt v140 c0_i32_66
  let v145 : BitVec 32 := Scalar.extui v144
  let v146 : BitVec 32 := Scalar.subi v143 v145
  let c2_i32_64 : BitVec 32 := 2#32
  let c0_i32_67 : BitVec 32 := 0#32
  let v147 : BitVec 1 := Scalar.cmpi .sgt c2_i32_64 c0_i32_67
  let v148 : BitVec 32 := Scalar.extui v147
  let c0_i32_68 : BitVec 32 := 0#32
  let v149 : BitVec 1 := Scalar.cmpi .slt c2_i32_64 c0_i32_68
  let v150 : BitVec 32 := Scalar.extui v149
  let v151 : BitVec 32 := Scalar.subi v148 v150
  let v152 : BitVec 1 := Scalar.cmpi .ne v146 v151
  let v153 : BitVec 32 := Scalar.remsi v140 c2_i32_64
  let c0_i32_69 : BitVec 32 := 0#32
  let v154 : BitVec 1 := Scalar.cmpi .ne v153 c0_i32_69
  let v155 : BitVec 1 := Scalar.andi v152 v154
  let v141 : BitVec 32 := Scalar.divsi v140 c2_i32_64
  let c1_i32_70 : BitVec 32 := 1#32
  let v156 : BitVec 32 := Scalar.subi v141 c1_i32_70
  let v157 : BitVec 32 := Scalar.select v155 v156 v141
  let c64_i32_74 : BitVec 32 := 64#32
  let v163 : BitVec 32 := Scalar.muli v157 c64_i32_74
  let v164 : BitVec 32 := Scalar.addi v162 v163
  let c1_i32_71 : BitVec 32 := 1#32
  let v158 : BitVec 1 := Scalar.cmpi .eq v140 c1_i32_71
  let c2_i32_72 : BitVec 32 := 2#32
  let v159 : BitVec 1 := Scalar.cmpi .eq v140 c2_i32_72
  let v160 : BitVec 1 := Scalar.ori v158 v159
  let v161 : BitVec 32 := Scalar.extui v160
  let c32_i32_75 : BitVec 32 := 32#32
  let v165 : BitVec 32 := Scalar.muli v161 c32_i32_75
  let v166 : BitVec 32 := Scalar.addi v164 v165
  let v759 : Index := Scalar.indexCast v166
  let c0_486 : Index := 0#32
  ![v759.toNat, 0]
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x256 : Shape := ⟨2, ![2048, 256]⟩
abbrev S8x256x256 : Shape := ⟨3, ![8, 256, 256]⟩
abbrev S_ : Shape := ⟨0, ![]⟩
abbrev S256x256 : Shape := ⟨2, ![256, 256]⟩

abbrev nBuf : Space → Nat
  | .hbm => 4
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S8x256x256, .f32⟩
  | .hbm, ⟨2, _⟩ => ⟨S_, .f32⟩
  | .hbm, ⟨3, _⟩ => ⟨S256x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Mesh.lean ====
/- The eight devices and the row blocks they own. Device `c` exchanges with its seven peers, the devices whose number
   differs from its own in the bits of a fixed mask; it owns the block of 32 rows numbered by the Gray code of its
   place on the ring of four. The printed program computes the peers' numbers and the blocks' first rows in 32-bit
   words; here they are put in closed form once, at every device. -/
module

public import proofs.«01_k».proof.Proof.Gen.KernelIdeal
public import proofs.«01_k».proof.Proof.Gen.KernelIdeal.Skeleton

@[expose] public section

noncomputable section

namespace Cert.KernelIdeal.Mesh

open Idealize.ShloMosaic Idealize.SL.Sem Cert.KernelIdeal.Gen

/-- The masks, in the order the kernel meets its peers. -/
def mask : Fin 7 → Fin 8 := ![6, 5, 7, 2, 1, 3, 4]

/-- The `k`-th peer of a device. -/
def peer (k : Fin 7) (c : Dev nD) : Dev nD := (c : Fin 8) ^^^ mask k

/-- The row block a device owns. -/
def gray (c : Dev nD) : Fin 8 := (![0, 1, 3, 2, 4, 5, 7, 6] : Fin 8 → Fin 8) c

/-- Being the `k`-th peer is mutual. -/
theorem peer_peer (k : Fin 7) (c : Dev nD) : peer k (peer k c) = c := by revert k c; decide

/-- No device is its own peer. -/
theorem peer_ne (k : Fin 7) (c : Dev nD) : peer k c ≠ c := by revert k c; decide

/-- The device with its peers: `none` is the device itself. -/
def around (c : Dev nD) : Option (Fin 7) → Dev nD
  | none => c
  | some k => peer k c

theorem around_bij (c : Dev nD) : Function.Bijective (around c) := by revert c; decide

theorem gray_bij : Function.Bijective gray := by decide

/-- The seven peers of a device, as the indices of a permutation of the devices. -/
def peerEquiv (k : Fin 7) : Dev nD ≃ Dev nD := ⟨peer k, peer k, peer_peer k, peer_peer k⟩

/-- The row block of the device itself (`none`) or of a peer. -/
def rowOf (c : Dev nD) (t : Option (Fin 7)) : Fin 8 := gray (around c t)

theorem rowOf_bij (c : Dev nD) : Function.Bijective (rowOf c) := gray_bij.comp (around_bij c)

/-- 32 rows of an array of 256: where they start, that they fit, and that whole words of the narrow type cover them. -/
structure Rows where
  off : Fin 2 → ℕ
  inb : ∀ a, off a + S32x256.size a ≤ S256x256.size a
  words : (Rect.unit (s := S256x256) off S32x256.size inb).WholeWords (EltTy.packing .bf16)
  packed : (Rect.unit (s := S256x256) off S32x256.size inb).PackedRows (EltTy.packing .bf16)

theorem Rows.ext' {a b : Rows} (h : a.off = b.off) : a = b := by
  cases a; cases b; cases h; rfl

/-- The rectangle of the rows. -/
abbrev Rows.rect (o : Rows) : Rect S256x256 := Rect.unit (s := S256x256) o.off S32x256.size o.inb

theorem block_inb : ∀ (b : Fin 8) (a : Fin 2), (![32 * b.val, 0] : Fin 2 → ℕ) a + S32x256.size a ≤ S256x256.size a := by decide
theorem block_words : ∀ b : Fin 8, (Rect.unit (s := S256x256) ![32 * b.val, 0] S32x256.size (block_inb b)).WholeWords (EltTy.packing .bf16) := by decide +kernel
theorem block_packed : ∀ b : Fin 8, (Rect.unit (s := S256x256) ![32 * b.val, 0] S32x256.size (block_inb b)).PackedRows (EltTy.packing .bf16) := by decide +kernel

/-- The `b`-th block of 32 rows. -/
def block (b : Fin 8) : Rows := ⟨![32 * b.val, 0], block_inb b, block_words b, block_packed b⟩

/-- Rows whose start is a block's start are that block. -/
def Rows.at (o : Fin 2 → ℕ) (b : Fin 8) (h : o = ![32 * b.val, 0]) : Rows :=
  ⟨o, by subst h; exact block_inb b, by subst h; exact block_words b, by subst h; exact block_packed b⟩

theorem Rows.at_eq (o : Fin 2 → ℕ) (b : Fin 8) (h : o = ![32 * b.val, 0]) : Rows.at o b h = block b := Rows.ext' h

theorem slot_inb : ∀ (k : Fin 7) (a : Fin 2), (![32 * k.val, 0] : Fin 2 → ℕ) a + S32x256.size a ≤ S224x256.size a := by decide
theorem slot_words : ∀ k : Fin 7, (Rect.unit (s := S224x256) ![32 * k.val, 0] S32x256.size (slot_inb k)).WholeWords (EltTy.packing .bf16) := by decide +kernel

/-- The `k`-th slot of a receive buffer. -/
abbrev slot (k : Fin 7) : Rect S224x256 := Rect.unit (s := S224x256) ![32 * k.val, 0] S32x256.size (slot_inb k)

/-- Where the `k`-th partial sum is read from, as the program computes it. -/
def sentOff (c : Dev nD) : Fin 7 → Fin 2 → ℕ
  | 0 => k0_off1 c | 1 => k0_off2 c | 2 => k0_off3 c | 3 => k0_off4 c | 4 => k0_off5 c | 5 => k0_off6 c | 6 => k0_off7 c

/-- Where the `k`-th gathered block is stored, as the program computes it. -/
def gotOff (c : Dev nD) : Fin 7 → Fin 2 → ℕ
  | 0 => k0_off16 c | 1 => k0_off15 c | 2 => k0_off14 c | 3 => k0_off13 c | 4 => k0_off12 c | 5 => k0_off11 c | 6 => k0_off10 c

theorem sentOff_eq : ∀ (c : Dev nD) (k : Fin 7), sentOff c k = ![32 * (gray (peer k c)).val, 0] := by decide +kernel
theorem gotOff_eq : ∀ (c : Dev nD) (k : Fin 7), gotOff c k = ![32 * (gray (peer k c)).val, 0] := by decide +kernel
theorem mineOff_eq : ∀ c : Dev nD, k0_off8 c = ![32 * (gray c).val, 0] := by decide +kernel
theorem mineOff'_eq : ∀ c : Dev nD, k0_off9 c = ![32 * (gray c).val, 0] := by decide +kernel

/-- What one run of the program depends on its device by: whom it signals, whom it sends the partial sums and the
    finished block to, and the rows it sends, owns and stores. -/
structure Plan where
  toBar : Fin 7 → Dev nD
  toRs : Fin 7 → Dev nD
  toAg : Fin 7 → Dev nD
  sent : Fin 7 → Rows
  mine : Rows
  mine' : Rows
  got : Fin 7 → Rows

/-- The plan as the program computes it on device `c`. -/
def printed (c : Dev nD) : Plan where
  toBar
    | 0 => ⟨k0_dev1 c, k0_dev1_lt c⟩ | 1 => ⟨k0_dev2 c, k0_dev2_lt c⟩ | 2 => ⟨k0_dev3 c, k0_dev3_lt c⟩
    | 3 => ⟨k0_dev4 c, k0_dev4_lt c⟩ | 4 => ⟨k0_dev5 c, k0_dev5_lt c⟩ | 5 => ⟨k0_dev6 c, k0_dev6_lt c⟩
    | 6 => ⟨k0_dev7 c, k0_dev7_lt c⟩
  toRs
    | 0 => ⟨k0_dev8 c, k0_dev8_lt c⟩ | 1 => ⟨k0_dev9 c, k0_dev9_lt c⟩ | 2 => ⟨k0_dev10 c, k0_dev10_lt c⟩
    | 3 => ⟨k0_dev11 c, k0_dev11_lt c⟩ | 4 => ⟨k0_dev12 c, k0_dev12_lt c⟩ | 5 => ⟨k0_dev13 c, k0_dev13_lt c⟩
    | 6 => ⟨k0_dev14 c, k0_dev14_lt c⟩
  toAg
    | 0 => ⟨k0_dev15 c, k0_dev15_lt c⟩ | 1 => ⟨k0_dev16 c, k0_dev16_lt c⟩ | 2 => ⟨k0_dev17 c, k0_dev17_lt c⟩
    | 3 => ⟨k0_dev18 c, k0_dev18_lt c⟩ | 4 => ⟨k0_dev19 c, k0_dev19_lt c⟩ | 5 => ⟨k0_dev20 c, k0_dev20_lt c⟩
    | 6 => ⟨k0_dev21 c, k0_dev21_lt c⟩
  sent k := Rows.at (sentOff c k) _ (sentOff_eq c k)
  mine := Rows.at (k0_off8 c) _ (mineOff_eq c)
  mine' := Rows.at (k0_off9 c) _ (mineOff'_eq c)
  got k := Rows.at (gotOff c k) _ (gotOff_eq c k)

/-- The plan in closed form. -/
def plan (c : Dev nD) : Plan where
  toBar k := peer k c
  toRs k := peer k c
  toAg k := peer k c
  sent k := block (gray (peer k c))
  mine := block (gray c)
  mine' := block (gray c)
  got k := block (gray (peer k c))

theorem toBar_eq : ∀ c k, (printed c).toBar k = peer k c := by decide +kernel
theorem toRs_eq : ∀ c k, (printed c).toRs k = peer k c := by decide +kernel
theorem toAg_eq : ∀ c k, (printed c).toAg k = peer k c := by decide +kernel

/-- On every device the program computes the plan. -/
theorem printed_eq (c : Dev nD) : printed c = plan c := by
  have h : printed c = ⟨fun k => (printed c).toBar k, fun k => (printed c).toRs k, fun k => (printed c).toAg k,
      fun k => (printed c).sent k, (printed c).mine, (printed c).mine', fun k => (printed c).got k⟩ := rfl
  rw [h]
  simp only [toBar_eq, toRs_eq, toAg_eq]
  simp only [printed, Rows.at_eq]
  rfl

end Cert.KernelIdeal.Mesh

end
-- ==== Proof.Program.lean ====
/- The kernel's body written as loops: every one of its seven-fold repetitions is a fold over the peers' indices, so that
   each step is stated and proved once, at a symbolic index. -/
module

public import proofs.«01_k».proof.Proof.Mesh
public import proofs.«01_k».proof.Proof.Gen.KernelIdeal.Launch
public import Idealize.ShloMosaic.Lib.Tactic

@[expose] public section

noncomputable section

namespace Cert.KernelIdeal.Program

open Idealize.ShloMosaic Idealize.ShloMosaic.TcCoe Idealize.SL.Sem Cert.KernelIdeal.Gen Cert.KernelIdeal.Mesh

variable {F : FTy → Type} [FloatOps F]

/-- A program of one TensorCore that answers nothing. -/
abbrev TP (F : FTy → Type) := Prog (TpuEff nD τ sig (Elt F) Λ₀ .tc) PUnit

/-- The buffers: the input's and the result's staging buffers, the narrowed copy of the input, and the two receive
    buffers. -/
abbrev inM : Memref sig .tc .vmem S256x256 .f32 := Memref.whole cc0_stg0_0
abbrev outM : Memref sig .tc .vmem S256x256 .f32 := Memref.whole cc0_stg1_0
abbrev stM : Memref sig .tc .vmem S256x256 .bf16 := Memref.whole cc0_scratch0
abbrev rsM : Memref sig .tc .vmem S224x256 .bf16 := Memref.whole cc0_scratch1
abbrev agM : Memref sig .tc .vmem S224x256 .bf16 := Memref.whole cc0_scratch2

theorem sems_inb : ∀ (k : Fin 7) (a : Fin 1), (![k.val] : Fin 1 → ℕ) a + S1.size a ≤ S7.size a := by decide

/-- The `k`-th semaphore of an array of seven. -/
abbrev semAt (A : DmaSems sig S7) (k : Fin 7) : DmaSem sig :=
  ((A.slice (Rect.unit (s := S7) ![k.val] S1.size (sems_inb k))).squeeze S_ squeezes_S1_S_).sem

/-- The peers' indices in the order of the sends, and in the order of the receives. -/
abbrev up : List (Fin 7) := [0, 1, 2, 3, 4, 5, 6]
abbrev down : List (Fin 7) := [6, 5, 4, 3, 2, 1, 0]

/-- Signal every peer's barrier. -/
def signals (dv : Fin 7 → Dev nD) : List (Fin 7) → TP F → TP F
  | [], K => K
  | k :: l, K => (.op (.semSignal (((dv k) : Dev nD), .tc) barrier0 1) fun _ => signals dv l K)

/-- Send 32 rows of the narrowed copy to every peer, into that peer's slot of a receive buffer. -/
def sends (dst : Memref sig .tc .vmem S224x256 .bf16) (hd : dst.IsWhole) (sS rS : DmaSems sig S7) (dv : Fin 7 → Dev nD) (rows : Fin 7 → Rows) :
    List (Fin 7) → TP F → TP F
  | [], K => K
  | k :: l, K =>
      (.op (.enqueueDma (stM.slice (rows k).rect (fun _ => rfl))
        (.remote (Dev.tc (dv k)) (dst.slice (slot k) (fun _ => rfl)) (.dma (semAt sS k))) (.dma (semAt rS k))
        ((Memref.isWhole_whole _).wordExact_slice rfl _ (rows k).words) (hd.wordExact_slice rfl _ (slot_words k))
        ⟨⟨rfl, Or.inl rfl⟩, trivial⟩) fun _ => sends dst hd sS rS dv rows l K)

/-- Wait until every send has left the narrowed copy. -/
def drains (dst : Memref sig .tc .vmem S224x256 .bf16) (hd : dst.IsWhole) (sS : DmaSems sig S7) (rows : Fin 7 → Rows) :
    List (Fin 7) → TP F → TP F
  | [], K => K
  | k :: l, K =>
      (.op (.waitDma2 (semAt sS k) (dst.slice (slot k) (fun _ => rfl)) (stM.slice (rows k).rect (fun _ => rfl))
        (hd.wordExact_slice rfl _ (slot_words k)) ((Memref.isWhole_whole _).wordExact_slice rfl _ (rows k).words)) fun _ =>
        drains dst hd sS rows l K)

/-- Wait for the `k`-th arrival in a receive buffer and read it. -/
def recv (dst : Memref sig .tc .vmem S224x256 .bf16) (hd : dst.IsWhole) (rS : DmaSems sig S7) (k : Fin 7) (K : Vec F S32x256 .bf16 → TP F) : TP F :=
  .op (.waitDma2 (semAt rS k) (stM.slice (block 0).rect (fun _ => rfl)) (dst.slice (slot k) (fun _ => rfl))
      ((Memref.isWhole_whole _).wordExact_slice rfl _ (block 0).words) (hd.wordExact_slice rfl _ (slot_words k))) fun _ =>
  .op (.load dst (slot k).toLoadRect (View.loadsAt_vmem h_S32x256)) K

/-- Add one arrival to the running sum. -/
abbrev addIn (acc : FVec F S32x256 .f32) (v : Vec F S32x256 .bf16) : FVec F S32x256 .f32 := addf acc (extf .f32 v bitsLt_bf16_f32)

/-- Receive the partial sums and add them up. -/
def reduces (rS : DmaSems sig S7) : List (Fin 7) → FVec F S32x256 .f32 → (FVec F S32x256 .f32 → TP F) → TP F
  | [], acc, K => K acc
  | k :: l, acc, K => recv rsM (Memref.isWhole_whole _) rS k fun v => reduces rS l (addIn acc v) K

/-- Store 32 rows of the result; what the rows held is read first and ignored. -/
def put (o : Rows) (w : FVec F S32x256 .f32) (K : TP F) : TP F :=
  .op (.load outM o.rect.toLoadRect (View.loadsAt_vmem h_S32x256)) fun _ =>
  .op (.store outM o.rect w Finset.univ (View.stores_vmem_bits_univ h_S32x256 rfl) (.inl rfl)) fun _ => K

/-- Receive the finished blocks and store each in its rows of the result. -/
def gathers (rS : DmaSems sig S7) (rows : Fin 7 → Rows) : List (Fin 7) → TP F → TP F
  | [], K => K
  | k :: l, K => recv agM (Memref.isWhole_whole _) rS k fun v => put (rows k) (extf .f32 v bitsLt_bf16_f32) (gathers rS rows l K)

/-- The sum narrowed, as it is sent. -/
abbrev narrow (acc : FVec F S32x256 .f32) : FVec F S32x256 .bf16 :=
  shapeCast S32x256 (truncf .bf16 acc bitsLt_bf16_f32) shapeCasts_S32x256_S32x256

/-- The body after the device has read its number, over a plan. -/
def loops (p : Plan) : TP F :=
  signals p.toBar up <|
  .op (.load inM (Rect.unit (s := S256x256) ![0, 0] S256x256.size inb_S256x256_S256x256_0_0).toLoadRect (View.loadsAt_vmem h_S256x256)) fun x =>
  .op (.load stM (Rect.unit (s := S256x256) ![0, 0] S256x256.size inb_S256x256_S256x256_0_0).toLoadRect (View.loadsAt_vmem h_S256x256)) fun _ =>
  .op (.store stM (Rect.unit (s := S256x256) ![0, 0] S256x256.size inb_S256x256_S256x256_0_0) (k0_pay1 x) Finset.univ
    (View.stores_vmem h_S256x256 ((Memref.isWhole_whole _).storeExact_slice rfl _ packedbf16_S256x256_S256x256_0_0) (fun _ => rfl)) (.inl rfl)) fun _ =>
  .op (.semWait barrier0 7) fun _ =>
  sends rsM (Memref.isWhole_whole _) cc0_scratch3 cc0_scratch4 p.toRs p.sent up <|
  .op (.load inM p.mine.rect.toLoadRect (View.loadsAt_vmem h_S32x256)) fun y =>
  reduces cc0_scratch4 down (k0_pay2 y) fun acc =>
  put p.mine acc <|
  .op (.load stM p.mine.rect.toLoadRect (View.loadsAt_vmem h_S32x256)) fun _ =>
  .op (.store stM p.mine.rect (narrow acc) Finset.univ
    (View.stores_vmem h_S32x256 ((Memref.isWhole_whole _).storeExact_slice rfl _ p.mine.packed) (fun _ => rfl)) (.inl rfl)) fun _ =>
  sends agM (Memref.isWhole_whole _) cc0_scratch5 cc0_scratch6 p.toAg (fun _ => p.mine') up <|
  gathers cc0_scratch6 p.got down <|
  drains rsM (Memref.isWhole_whole _) cc0_scratch3 p.sent up <|
  drains agM (Memref.isWhole_whole _) cc0_scratch5 (fun _ => p.mine') up <|
  .ret ⟨⟩

set_option maxRecDepth 65536 in
/-- The kernel's body is the loops, over the plan it computes. -/
theorem body_printed :
    (cc0_body (F := F) inM (Memref.isWhole_whole _) outM (Memref.isWhole_whole _) stM (Memref.isWhole_whole _) rsM (Memref.isWhole_whole _) agM (Memref.isWhole_whole _)
      cc0_scratch3 cc0_scratch4 cc0_scratch5 cc0_scratch6) = .op .deviceId fun c => loops (printed c) := rfl

/-- The kernel's body is the loops, over the plan in closed form. -/
theorem body_eq :
    (cc0_body (F := F) inM (Memref.isWhole_whole _) outM (Memref.isWhole_whole _) stM (Memref.isWhole_whole _) rsM (Memref.isWhole_whole _) agM (Memref.isWhole_whole _)
      cc0_scratch3 cc0_scratch4 cc0_scratch5 cc0_scratch6) = .op .deviceId fun c => loops (plan c) := by
  rw [body_printed]; simp only [printed_eq]

end Cert.KernelIdeal.Program

end
-- ==== Proof.Contents.lean ====
/- What each buffer holds along the way, as functions of the devices' inputs `X`: the narrowed copies, the sum of the
   partial blocks a device receives, that sum narrowed, and the result assembled from its eight row blocks. -/
module

public import proofs.«01_k».proof.Proof.Program

@[expose] public section

noncomputable section

namespace Cert.KernelIdeal.Contents

open Idealize.ShloMosaic Idealize.ShloMosaic.TcCoe Idealize.SL.Sem Cert.KernelIdeal.Gen Cert.KernelIdeal.Mesh Cert.KernelIdeal.Program

variable {F : FTy → Type}

/-! ## Row blocks of an array of 256 rows -/

/-- The `b`-th row block of an array. -/
def rowsOf {e : EltTy} (b : Fin 8) (A : Vec F S256x256 e) : Vec F S32x256 e := fun j => A ((block b).rect.emb j)

/-- The row block an index of the array lies in. -/
def blockIx (i : S256x256.Idx) : Fin 8 := ⟨(i 0).val / 32, by have h : (i 0).val < 256 := (i 0).isLt; omega⟩

/-- Its place within that block. -/
def blockPos (i : S256x256.Idx) : S32x256.Idx
  | 0 => ⟨(i 0).val % 32, Nat.mod_lt _ (by decide)⟩
  | 1 => i 1

theorem emb_row (b : Fin 8) (j : S32x256.Idx) : ((block b).rect.emb j 0).val = 32 * b.val + (j 0).val := by
  exact congrArg (32 * b.val + ·) (Nat.one_mul _)

theorem emb_col (b : Fin 8) (j : S32x256.Idx) : ((block b).rect.emb j 1).val = (j 1).val := by
  exact (Nat.zero_add _).trans (Nat.one_mul _)

theorem blockIx_emb (b : Fin 8) (j : S32x256.Idx) : blockIx ((block b).rect.emb j) = b := by
  apply Fin.ext; show ((block b).rect.emb j 0).val / 32 = b.val
  have h : (j 0).val < 32 := (j 0).isLt
  rw [emb_row]; omega

theorem blockPos_emb (b : Fin 8) (j : S32x256.Idx) : blockPos ((block b).rect.emb j) = j := by
  have h : (j 0).val < 32 := (j 0).isLt
  funext a; fin_cases a
  · apply Fin.ext; show ((block b).rect.emb j 0).val % 32 = (j 0).val; rw [emb_row]; omega
  · apply Fin.ext; exact emb_col b j

theorem emb_blockPos (i : S256x256.Idx) : (block (blockIx i)).rect.emb (blockPos i) = i := by
  funext a; fin_cases a
  · apply Fin.ext; refine (emb_row _ _).trans ?_
    show 32 * ((i 0).val / 32) + (i 0).val % 32 = (i 0).val; omega
  · apply Fin.ext; exact emb_col _ _

/-- The blocks are disjoint, -/
theorem blocks_disjoint (b b' : Fin 8) (h : b ≠ b') : Disjoint (block b).rect.set (block b').rect.set := by
  rw [Finset.disjoint_left]; intro i hi hi'
  rw [← Rect.map_emb_univ, Finset.mem_map] at hi hi'
  obtain ⟨j, -, rfl⟩ := hi; obtain ⟨j', -, hj⟩ := hi'
  exact h ((blockIx_emb b j).symm.trans ((congrArg blockIx hj).symm.trans (blockIx_emb b' j')))

/-- and cover the array. -/
theorem mem_block (i : S256x256.Idx) : i ∈ (block (blockIx i)).rect.set := by
  rw [← Rect.map_emb_univ, Finset.mem_map]; exact ⟨blockPos i, Finset.mem_univ _, emb_blockPos i⟩

/-- The blocks of a device and its peers, in the order `none, some 0, …`: disjoint, -/
theorem around_disjoint (c : Dev nD) (t t' : Option (Fin 7)) (h : t ≠ t') : Disjoint (block (rowOf c t)).rect.set (block (rowOf c t')).rect.set :=
  blocks_disjoint _ _ fun e => h ((rowOf_bij c).1 e)

/-- and covering. -/
theorem around_cover (c : Dev nD) : (Finset.univ : Finset (Option (Fin 7))).biUnion (fun t => (block (rowOf c t)).rect.set) = Finset.univ := by
  ext i; refine ⟨fun _ => Finset.mem_univ _, fun _ => ?_⟩
  obtain ⟨t, ht⟩ := (rowOf_bij c).2 (blockIx i)
  exact Finset.mem_biUnion.mpr ⟨t, Finset.mem_univ _, by rw [ht]; exact mem_block i⟩

/-- The array of 256 rows whose row blocks are given, by device (its own `none`, then its peers). -/
def glue (c : Dev nD) {e : EltTy} (B : Option (Fin 7) → Vec F S32x256 e) : Vec F S256x256 e :=
  fun i => B ((Equiv.ofBijective _ (rowOf_bij c)).symm (blockIx i)) (blockPos i)

theorem rowsOf_glue (c : Dev nD) {e : EltTy} (B : Option (Fin 7) → Vec F S32x256 e) (t : Option (Fin 7)) :
    rowsOf (rowOf c t) (glue c B) = B t := by
  funext j; unfold rowsOf glue
  rw [blockIx_emb, blockPos_emb]
  exact congrArg (fun u => B u j) ((Equiv.ofBijective _ (rowOf_bij c)).symm_apply_apply t)

/-! ## Slots of a receive buffer -/

/-- The slot a row of a receive buffer lies in. -/
def slotIx (i : S224x256.Idx) : Fin 7 := ⟨(i 0).val / 32, by have h : (i 0).val < 224 := (i 0).isLt; omega⟩

theorem slot_row (k : Fin 7) (j : S32x256.Idx) : ((slot k).emb j 0).val = 32 * k.val + (j 0).val := by
  exact congrArg (32 * k.val + ·) (Nat.one_mul _)

theorem slot_col (k : Fin 7) (j : S32x256.Idx) : ((slot k).emb j 1).val = (j 1).val := by
  exact (Nat.zero_add _).trans (Nat.one_mul _)

theorem slotIx_emb (k : Fin 7) (j : S32x256.Idx) : slotIx ((slot k).emb j) = k := by
  apply Fin.ext; show ((slot k).emb j 0).val / 32 = k.val
  have h : (j 0).val < 32 := (j 0).isLt
  rw [slot_row]; omega

/-- The slots are disjoint, -/
theorem slots_disjoint (k k' : Fin 7) (h : k ≠ k') : Disjoint (slot k).set (slot k').set := by
  rw [Finset.disjoint_left]; intro i hi hi'
  rw [← Rect.map_emb_univ, Finset.mem_map] at hi hi'
  obtain ⟨j, -, rfl⟩ := hi; obtain ⟨j', -, hj⟩ := hi'
  exact h ((slotIx_emb k j).symm.trans ((congrArg slotIx hj).symm.trans (slotIx_emb k' j')))

/-- and cover the buffer. -/
theorem slots_cover : (Finset.univ : Finset (Fin 7)).biUnion (fun k => (slot k).set) = Finset.univ := by
  ext i; refine ⟨fun _ => Finset.mem_univ _, fun _ => Finset.mem_biUnion.mpr ⟨slotIx i, Finset.mem_univ _, ?_⟩⟩
  rw [← Rect.map_emb_univ, Finset.mem_map]
  have h0 : (i 0).val < 224 := (i 0).isLt
  refine ⟨fun | 0 => ⟨(i 0).val % 32, Nat.mod_lt _ (by decide)⟩ | 1 => i 1, Finset.mem_univ _, ?_⟩
  funext a; fin_cases a
  · apply Fin.ext; refine (slot_row _ _).trans ?_
    show 32 * ((i 0).val / 32) + (i 0).val % 32 = (i 0).val; omega
  · apply Fin.ext; exact slot_col _ _

/-! ## The values -/

variable [FloatOps F] (X : Dev nD → Vec F S256x256 .f32)

/-- A device's input narrowed. -/
def narrowed (c : Dev nD) : Vec F S256x256 .bf16 := k0_pay1 (X c)

/-- The block a device sends to the owner of row block `b`. -/
def sentTo (c : Dev nD) (b : Fin 8) : Vec F S32x256 .bf16 := rowsOf b (narrowed X c)

/-- The sum a device forms: its own rows, and its peers' narrowed rows in the order they are received. -/
def total (c : Dev nD) : FVec F S32x256 .f32 :=
  down.foldl (fun acc k => addIn acc (sentTo X (peer k c) (gray c))) (k0_pay2 (rowsOf (gray c) (X c)))

/-- That sum narrowed, as the peers receive it. -/
def totalN (c : Dev nD) : Vec F S32x256 .bf16 := narrow (total X c)

/-- The row blocks of the result on device `c`. -/
def outBlk (c : Dev nD) : Option (Fin 7) → Vec F S32x256 .f32
  | none => total X c
  | some k => extf .f32 (totalN X (peer k c)) bitsLt_bf16_f32

/-- The result on device `c`. -/
def outArr (c : Dev nD) : Vec F S256x256 .f32 := glue c (outBlk X c)

end Cert.KernelIdeal.Contents

end
-- ==== Proof.Cells.lean ====
/- The semaphores of the exchange and what passes through them. Each device has a barrier cell, to which each of its seven
   peers pays one unit, and four times seven transfer cells, each of which one transfer pays once. A unit on the barrier
   cell hands over the payer's two receive slots; a transfer's credit hands over the rows it read (at the sender) or the
   slot it filled (at the receiver), with what they hold. -/
module

public import proofs.«01_k».proof.Proof.Contents
public import Idealize.ShloMosaic.Lib.Pipeline.Launch
public import Idealize.ShloMosaic.Lib.Pipeline.Kit
public import Idealize.ShloMosaic.Lib.Pipeline.BigSepL
public import Idealize.ShloMosaic.Lib.Memref
public import Idealize.ShloMosaic.Lib.Transfers

@[expose] public section

noncomputable section

namespace Cert.KernelIdeal.Cells

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Mesh Cert.KernelIdeal.Program Cert.KernelIdeal.Contents

variable {F : FTy → Type} [FloatOps F]

/-! ## The resources -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The four uses of the transfer semaphores: partial sums leaving and arriving, finished blocks leaving and arriving. -/
def arm : Fin 4 → DmaSems sig S7
  | 0 => cc0_scratch3 | 1 => cc0_scratch4 | 2 => cc0_scratch5 | 3 => cc0_scratch6

/-- A device's cells: the barrier (`none`) and the `k`-th semaphore of use `a` (`some (a, k)`). -/
abbrev CI : Type := Option (Fin 4 × Fin 7)

abbrev osem (x : Fin 4 × Fin 7) : SemLoc sig := .dma (semAt (arm x.1) x.2)

def csem : CI → SemLoc sig
  | none => .reg barrier0
  | some x => osem x

abbrev kcell (ck : Dev nD × CI) : GSem nD τ sig := ((ck.1 : Thread nD τ), csem ck.2)

/-- The barrier cell of a device, and its transfer cells. -/
abbrev barCell (c : Dev nD) : GSem nD τ sig := kcell (c, none)
abbrev xCell (a : Fin 4) (k : Fin 7) (c : Dev nD) : GSem nD τ sig := kcell (c, some (a, k))

/-- Which cell of its device a semaphore is, if it is one of these. -/
def kind : SemLoc sig → Option CI
  | .reg _ => some none
  | .dma q => if 2 ≤ q.val then some (some (Fin.ofNat 4 ((q.val - 2) / 7), Fin.ofNat 7 ((q.val - 2) % 7))) else none

theorem kind_osem : ∀ x : Fin 4 × Fin 7, kind (osem x) = some (some x) := by decide

theorem kind_csem (x : CI) : kind (csem x) = some x := by
  cases x with
  | none => rfl
  | some x => exact kind_osem x

theorem csem_injective : Function.Injective csem := fun x y h => by
  have := congrArg kind h; rw [kind_csem, kind_csem] at this; exact Option.some.inj this

theorem kcell_injective : Function.Injective kcell := fun p q h => by
  obtain ⟨c, x⟩ := p; obtain ⟨d, y⟩ := q
  have h1 : c = d := congrArg (fun g : GSem nD τ sig => g.1.1) h
  have h2 : csem x = csem y := congrArg (fun g : GSem nD τ sig => g.2) h
  rw [h1, csem_injective h2]

/-- The credit of a transfer of 32 rows. -/
abbrev N : ℕ := (stM.slice (block 0).rect (fun _ => rfl)).view.dmaCredit
theorem N_pos : 0 < N := View.dmaCredit_pos _ (by decide)

/-! ## What the cells' units hand over -/

variable (X : Dev nD → Vec F S256x256 .f32)

/-- A slot of a receive buffer of device `c`, at some contents. -/
def anySlot (M : Memref sig .tc .vmem S224x256 .bf16) (k : Fin 7) (c : Dev nD) : sProp 𝕄 :=
  iprop(∃ Y, owns (c : Thread nD τ) (M.slice (slot k) (fun _ => rfl)) fullShare Y)

/-- What the `k`-th peer's unit on device `c`'s barrier cell hands over: that peer's two receive slots. -/
def barPay (k : Fin 7) (c : Dev nD) : sProp 𝕄 := iprop(anySlot (F := F) rsM k (peer k c) ∗ anySlot (F := F) agM k (peer k c))

/-- The `k`-th share of the rows the seven finished blocks are read from. -/
abbrev share (k : Fin 7) : PosShare TreeShare := Transfers.shareTok fullShare 7 k

/-- The rows read for the `k`-th partial sum. -/
def rsSent (k : Fin 7) (c : Dev nD) : sProp 𝕄 :=
  owns (c : Thread nD τ) (stM.slice (block (gray (peer k c))).rect (fun _ => rfl)) fullShare (sentTo X c (gray (peer k c)))
/-- The slot holding the `k`-th partial sum. -/
def rsGot (k : Fin 7) (c : Dev nD) : sProp 𝕄 :=
  owns (c : Thread nD τ) (rsM.slice (slot k) (fun _ => rfl)) fullShare (sentTo X (peer k c) (gray c))
/-- A share of the rows holding the device's finished block. -/
def agSent (k : Fin 7) (c : Dev nD) : sProp 𝕄 :=
  owns (c : Thread nD τ) (stM.slice (block (gray c)).rect (fun _ => rfl)) (share k) (totalN X c)
/-- The slot holding the `k`-th peer's finished block. -/
def agGot (k : Fin 7) (c : Dev nD) : sProp 𝕄 :=
  owns (c : Thread nD τ) (agM.slice (slot k) (fun _ => rfl)) fullShare (totalN X (peer k c))

/-- What a transfer's credit hands over, by use. -/
def xPay : Fin 4 → Fin 7 → Dev nD → sProp 𝕄
  | 0 => rsSent X | 1 => rsGot X | 2 => agSent X | 3 => agGot X

/-- What a unit on a cell hands over. -/
def pay (c : Dev nD) (d : Fin 7) : Option CI → sProp 𝕄
  | some none => barPay d c
  | some (some x) => xPay X x.1 x.2 c
  | none => iprop(emp)

instance pay_storable (c : Dev nD) (d : Fin 7) (o : Option CI) : BI.Storable (upEmb : UEmb _ 𝕄) (pay X c d o) := by
  match o with
  | none => unfold pay; infer_instance
  | some none => unfold pay barPay anySlot; infer_instance
  | some (some (0, k)) => unfold pay xPay rsSent; infer_instance
  | some (some (1, k)) => unfold pay xPay rsGot; infer_instance
  | some (some (2, k)) => unfold pay xPay agSent; infer_instance
  | some (some (3, k)) => unfold pay xPay agGot; infer_instance

/-- The duties of a cell's one round: the barrier's seven peers, a transfer cell's one transfer. -/
def dutiesOf : Option CI → Finset (Fin 7)
  | some none => Finset.univ
  | some (some _) => {0}
  | none => ∅

/-- The units a duty pays. -/
def amountOf : Option CI → ℕ
  | some none => 1
  | _ => N

theorem amountOf_pos (o : Option CI) : 0 < amountOf o := by
  match o with
  | none => exact N_pos
  | some none => exact Nat.one_pos
  | some (some _) => exact N_pos

/-- The schedule: one round, round 0. -/
def Rd : Rounds.Schedule (GSem nD τ sig) (Fin 7) 𝕄 where
  duties g r := if r = 0 ∧ g.1.2 = .tc then dutiesOf (kind g.2) else ∅
  unitless _ := False
  amount g _ _ := amountOf (kind g.2)
  payload g _ d := pay X g.1.1 d (kind g.2)
  amount_pos g _ _ _ := amountOf_pos _

instance Rd_storable (g : GSem nD τ sig) (r : ℕ) (d : Fin 7) : BI.Storable (upEmb : UEmb _ 𝕄) ((Rd X).payload g r d) := by
  unfold Rd; infer_instance

theorem duties_cell (c : Dev nD) (x : CI) : (Rd X).duties (kcell (c, x)) 0 = dutiesOf (some x) := by
  dsimp only [Rd]; rw [kind_csem]; exact if_pos ⟨rfl, rfl⟩
theorem duties_later (g : GSem nD τ sig) : ∀ r, 1 ≤ r → (Rd X).duties g r = ∅ :=
  fun r hr => if_neg fun h => by omega
theorem amount_cell (c : Dev nD) (x : CI) (d : Fin 7) : (Rd X).amount (kcell (c, x)) 0 d = amountOf (some x) := by
  show amountOf (kind (csem x)) = _; rw [kind_csem]
theorem payload_cell (c : Dev nD) (x : CI) (d : Fin 7) : (Rd X).payload (kcell (c, x)) 0 d = pay X c d (some x) := by
  show pay X c d (kind (csem x)) = _; rw [kind_csem]

theorem expect_bar (c : Dev nD) : (Rd X).expect (barCell c) 0 = 7 := by
  unfold Schedule.expect Schedule.amountOf
  rw [duties_cell, Finset.sum_congr rfl fun d _ => amount_cell X c none d, Finset.sum_const]; rfl
theorem expect_x (a : Fin 4) (k : Fin 7) (c : Dev nD) : (Rd X).expect (xCell a k c) 0 = N := by
  unfold Schedule.expect Schedule.amountOf
  rw [duties_cell, Finset.sum_congr rfl fun d _ => amount_cell X c (some (a, k)) d]
  show ∑ d ∈ ({0} : Finset (Fin 7)), N = N
  exact Finset.sum_singleton _ _

/-- The barrier's round hands over every peer's slots, -/
theorem rest_bar (c : Dev nD) :
    bigSep ((Rd X).duties (barCell c) 0 \ ∅) (fun d => (Rd X).payload (barCell c) 0 d) = bigSep Finset.univ fun k => barPay (F := F) k c := by
  rw [Finset.sdiff_empty, duties_cell]
  exact bigSep_congr fun d _ => payload_cell X c none d
/-- a transfer's round what that transfer hands over. -/
theorem rest_x (a : Fin 4) (k : Fin 7) (c : Dev nD) :
    bigSep ((Rd X).duties (xCell a k c) 0 \ ∅) (fun d => (Rd X).payload (xCell a k c) 0 d) = xPay X a k c := by
  rw [Finset.sdiff_empty, duties_cell]
  show bigSep {0} _ = _
  rw [bigSep_singleton, payload_cell]; rfl

/-! ## Levels and debts -/

/-- The devices' cells carry a level; no other thread's do. -/
def L (g : GSem nD τ sig) : Finset Unit := if g.1.2 = .tc then {()} else ∅

/-- The barrier first, then the partial sums, then the finished blocks; what a device awaits of its own is lowest. -/
def lvOf : Option CI → ℕ
  | some none => 1
  | some (some (1, _)) => 2
  | some (some (3, _)) => 3
  | _ => 0

def lv (g : GSem nD τ sig) (_ : Unit) : ℕ := lvOf (kind g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (x : CI) (u : Unit) : lv (kcell (c, x)) u = lvOf (some x) := by
  show lvOf (kind (csem x)) = _; rw [kind_csem]

/-- Debts to one cell per peer, on top of others, first peer on top. -/
def debts (f : Fin 7 → GSem nD τ sig) (n : ℕ) : List (Fin 7) → CellTallies nD τ sig Unit → CellTallies nD τ sig Unit
  | [], O => O
  | k :: l, O => debts f n l O + tallyAt (f k) () n

/-- Every debt is to a device's cell above level `b`. -/
def Above (b : ℕ) (O : CellTallies nD τ sig Unit) : Prop := ∀ g u, 0 < O g u → g.1.2 = .tc ∧ b < lv g u

theorem above_zero (b : ℕ) : Above b (0 : CellTallies nD τ sig Unit) := fun g u h => absurd h (Nat.lt_irrefl 0)

theorem above_debts (b : ℕ) (x : Fin 7 → CI) (dv : Fin 7 → Dev nD) (n : ℕ) (hx : ∀ k, b < lvOf (some (x k))) (l : List (Fin 7)) (O)
    (hO : Above b O) : Above b (debts (fun k => kcell (dv k, x k)) n l O) := by
  induction l with
  | nil => exact hO
  | cons k l ih =>
    intro g u h
    unfold debts at h
    rw [Pi.add_apply, Finsupp.add_apply, tallyAt_apply] at h
    by_cases hg : g = kcell (dv k, x k) ∧ u = ()
    · rw [hg.1, lv_cell]; exact ⟨rfl, hx k⟩
    · rw [if_neg hg] at h; exact ih g u h

/-- A device whose debts all lie above a semaphore's level may wait on it. -/
theorem mayWait (c : Dev nD) (sm : SemLoc sig) (O : CellTallies nD τ sig Unit) (hO : Above (lvOf (kind sm)) O) :
    (levAts L lv : sProp 𝕄) ⊢ MayWait (c : Thread nD τ) sm () O :=
  MayOwe.of_cut (L := L) (lev := lv) (lvOf (kind sm))
    (fun p hp => by rw [Finset.mem_singleton.mp hp, L_tc]; exact Finset.mem_singleton_self _)
    (fun g u hg => by
      obtain ⟨⟨c', p⟩, sm'⟩ := g
      have h : p = .tc := (hO _ u hg).1
      subst h; exact (L_tc c' sm').symm ▸ Finset.mem_singleton_self _)
    (fun p hp => by rw [Finset.mem_singleton.mp hp]; exact le_refl _)
    (fun g u hg => (hO g u hg).2)

end Cert.KernelIdeal.Cells

end
-- ==== Proof.Steps.lean ====
/- One step of the exchange at a time: reading and storing an owned memref, signalling a peer, sending 32 rows to a peer,
   waiting on a cell. Each is stated for every device and every peer's index. -/
module

public import proofs.«01_k».proof.Proof.Cells
public import Idealize.ShloMosaic.Lib.Tactic

@[expose] public section

noncomputable section

namespace Cert.KernelIdeal.Steps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Mesh Cert.KernelIdeal.Program Cert.KernelIdeal.Contents Cert.KernelIdeal.Cells

variable {F : FTy → Type} [FloatOps F]

local notation "𝕄" => MT nD τ sig Unit (Elt F) ℕ UU ℕ

abbrev 𝒱₀ : Variants := Variants.none

/-- The program `P` run on device `c` ends in `Q`. -/
abbrev run (c : Dev nD) (P : TP F) (Q : PUnit → sProp 𝕄) : sProp 𝕄 :=
  wp frame (wpE (defs₀ (F := F)) 𝒱₀ (c : Thread nD τ) none) Set.univ P Q

/-! ## Owned memrefs -/

section Owned
variable {s : Shape} {e : EltTy} (c : Dev nD) (M : Memref sig .tc .vmem s e) (r : Rect s)

/-- A load through a rectangle of an owned memref reads what the memref holds there. -/
theorem load_part (q : PosShare TreeShare) (A : Vec F s e) {hl : M.view.LoadsAt r.toLoadRect} {k : Vec F r.shape e → TP F}
    {Q : PUnit → sProp 𝕄} :
    (owns (c : Thread nD τ) M q A : sProp 𝕄)
      ⊢ iprop((owns (c : Thread nD τ) M q A -∗ run c (k fun j => A (r.emb j)) Q) -∗ run c (.op (.load M r.toLoadRect hl) k) Q) := by
  unfold owns
  iintro ⟨%f, %hf, H⟩ Hk
  iapply (wp_load_rect 𝒱₀ (c : Thread nD τ) none Set.univ (m := M) (r := r) (S := M.view.set) (View.set_slice_subset _ _)) $$ H
  iintro H
  rw [show (M.access r).read (Elt F) f = fun j => A (r.emb j) from by rw [← hf]; rfl]
  iapply Hk; iexists f; isplitr; · ipureintro; exact hf
  iexact H

/-- A load of an owned slice reads the slice. -/
theorem load_slice (hr : ∀ a, r.stride a = 1) (q : PosShare TreeShare) (A : Vec F r.shape e) {hl : M.view.LoadsAt r.toLoadRect} {k : Vec F r.shape e → TP F}
    {Q : PUnit → sProp 𝕄} :
    (owns (c : Thread nD τ) (M.slice r hr) q A : sProp 𝕄)
      ⊢ iprop((owns (c : Thread nD τ) (M.slice r hr) q A -∗ run c (k A) Q) -∗ run c (.op (.load M r.toLoadRect hl) k) Q) := by
  unfold owns
  iintro ⟨%f, %hf, H⟩ Hk
  iapply (wp_load_rect 𝒱₀ (c : Thread nD τ) none Set.univ (m := M) (r := r) (S := (M.slice r hr).view.set) (Finset.Subset.refl _)) $$ H
  iintro H
  rw [show (M.access r).read (Elt F) f = A from hf]
  iapply Hk; iexists f; isplitr; · ipureintro; exact hf
  iexact H

/-- A store over an owned slice leaves what was stored. -/
theorem store_slice (hr : ∀ a, r.stride a = 1) (A w : Vec F r.shape e) {hx : (M.access r).Stores Finset.univ}
    {hm : (Finset.univ : Finset r.shape.Idx) = Finset.univ ∨ ∀ a, r.stride a = 1} {k : PUnit → TP F} {Q : PUnit → sProp 𝕄} :
    (owns (c : Thread nD τ) (M.slice r hr) fullShare A : sProp 𝕄)
      ⊢ iprop((owns (c : Thread nD τ) (M.slice r hr) fullShare w -∗ run c (k ⟨⟩) Q) -∗ run c (.op (.store M r w Finset.univ hx hm) k) Q) := by
  unfold owns
  iintro ⟨%f, %hf, H⟩ Hk
  iapply (wp_store 𝒱₀ (c : Thread nD τ) none Set.univ (m := M) (r := r) (Mk := Finset.univ) (S := (M.slice r hr).view.set) (Finset.Subset.refl _)) $$ H
  iintro H
  iapply Hk; iexists _; isplitr
  rotate_left
  · iexact H
  ipureintro; exact View.read_write_univ f w

end Owned

/-! ## What every device knows of every cell -/

variable (X : Dev nD → Vec F S256x256 .f32) (K : Dev nD × CI → ℕ)

/-- Every cell of every device is under the schedule and has reached its round; the levels. -/
def env : sProp 𝕄 :=
  iprop((bigSep Finset.univ fun ck => cellInv ER (Rd X) (K ck) (kcell ck)) ∗ (bigSep Finset.univ fun ck => reached ER (kcell ck) 0) ∗ levAts L lv)

instance env_persistent : BI.Persistent (env X K) := by unfold env; infer_instance

theorem env_inv (ck : Dev nD × CI) : env X K ⊢ cellInv ER (Rd X) (K ck) (kcell ck) := by
  unfold env; iintro ⟨H, -⟩; iapply (show (bigSep Finset.univ fun ck => (cellInv ER (Rd X) (K ck) (kcell ck) : sProp 𝕄)) ⊢ cellInv ER (Rd X) (K ck) (kcell ck) from bigSep_elim (Finset.mem_univ ck)) $$ H
theorem env_reached (ck : Dev nD × CI) : env X K ⊢ reached ER (kcell ck) 0 := by
  unfold env; iintro ⟨-, H, -⟩; iapply (show (bigSep Finset.univ fun ck => (reached ER (kcell ck) 0 : sProp 𝕄)) ⊢ reached ER (kcell ck) 0 from bigSep_elim (Finset.mem_univ ck)) $$ H
theorem env_levels : env X K ⊢ levAts L lv := by unfold env; iintro ⟨-, -, H⟩; iexact H

/-- Device `c` owes `O`. -/
def owing (c : Dev nD) (O : CellTallies nD τ sig Unit) : sProp 𝕄 := iprop(∃ W, owes (c : Thread nD τ) O W)

/-! ## Waiting on a cell -/

/-- What a device holds of a cell it waits on once: the right to wait for the whole round, and its place there. -/
def ticket (c : Dev nD) (x : CI) (n : ℕ) : sProp 𝕄 := iprop(cred (tallyAt (kcell (c, x)) () n) ∗ atPos ER (kcell (c, x)) 0 ∅ 0)

/-- A wait for a whole round: the payloads of the round, and the cell, at zero and closed. -/
theorem wait_round (c : Dev nD) (x : CI) (n : ℕ) (O : CellTallies nD τ sig Unit) (hn : (Rd X).expect (kcell (c, x)) 0 = n)
    (hO : Above (lvOf (some x)) O) {w : TpuEff nD τ sig (Elt F) Λ₀ .tc PUnit}
    (hw : ∀ T : PUnit → sProp 𝕄, wpE (defs₀ (F := F)) 𝒱₀ (c : Thread nD τ) none Set.univ w T = waitSpec (c : Thread nD τ) Set.univ (csem x) n T)
    {k : PUnit → TP F} {Q : PUnit → sProp 𝕄} :
    iprop(env X K ∗ owing (F := F) c O ∗ ticket (F := F) c x n)
      ⊢ iprop(((owing (F := F) c O ∗ bigSep ((Rd X).duties (kcell (c, x)) 0 \ ∅) (fun d => (Rd X).payload (kcell (c, x)) 0 d) ∗ semVal (kcell (c, x)) 0)
          -∗ run c (k ⟨⟩) Q) -∗ run c (.op w k) Q) := by
  unfold owing ticket
  iintro ⟨#He, ⟨%W, HO⟩, Hc, Hat⟩ Hk
  iapply (Rounds.wp_wait_rest_token 𝒱₀ ER (Rd X) (c : Thread nD τ) none (κ := K (c, x)) hw (Set.mem_univ _) () (O := O) (W := W) (R := 0) (m := 0) (T := ∅)
      (by rw [Nat.zero_add]; exact hn.symm)) $$ [Hc HO Hat]
  · isplitr; · iapply (env_inv X K (c, x)); iexact He
    isplitl [Hc]; · iexact Hc
    isplitl [HO]; · iexact HO
    isplitr
    · iapply (mayWait c (csem x) O (by rw [kind_csem]; exact hO)); iapply (env_levels X K); iexact He
    iexact Hat
  iintro ⟨HO, Hat, -, Hpay⟩
  imod (Rounds.cell_close ER (Rd X) (Set.mem_univ (K (c, x))) (fun h => h) (R := 0 + 1) (duties_later X (kcell (c, x)))) $$ [Hat] with Hz
  · isplitr; · iapply (env_inv X K (c, x)); iexact He
    iexact Hat
  iapply Hk
  isplitl [HO]; · iexists _; iexact HO
  isplitl [Hpay] <;> iassumption

/-- The wait for the barrier: every peer's receive slots. -/
theorem wait_bar (c : Dev nD) (O : CellTallies nD τ sig Unit) (hO : Above 1 O) {k : PUnit → TP F} {Q : PUnit → sProp 𝕄} :
    iprop(env X K ∗ owing (F := F) c O ∗ ticket (F := F) c none 7)
      ⊢ iprop(((owing (F := F) c O ∗ (bigSep Finset.univ fun i => barPay (F := F) i c) ∗ semVal (barCell c) 0)
          -∗ run c (k ⟨⟩) Q) -∗ run c (.op (.semWait barrier0 7) k) Q) := by
  rw [← rest_bar X c]
  exact wait_round X K c none 7 O (expect_bar X c) hO (wpE_semWait_eq 𝒱₀ (c : Thread nD τ) none Set.univ)

/-- The wait for a transfer of 32 rows: what that transfer hands over. -/
theorem wait_x (c : Dev nD) (a : Fin 4) (i : Fin 7) (O : CellTallies nD τ sig Unit) (hO : Above (lvOf (some (some (a, i)))) O)
    {s s' : Shape} {e e' : EltTy} {sp sp' : Space} {src : Memref sig .tc sp' s' e'} {dst : Memref sig .tc sp s e} (hN : dst.view.dmaCredit = N)
    {hsrc : src.view.WordExact} {hdst : dst.view.WordExact} {k : PUnit → TP F} {Q : PUnit → sProp 𝕄} :
    iprop(env X K ∗ owing (F := F) c O ∗ ticket (F := F) c (some (a, i)) N)
      ⊢ iprop(((owing (F := F) c O ∗ xPay X a i c ∗ semVal (xCell a i c) 0)
          -∗ run c (k ⟨⟩) Q) -∗ run c (.op (.waitDma2 (semAt (arm a) i) src dst hsrc hdst) k) Q) := by
  rw [← rest_x X a i c]
  exact wait_round X K c (some (a, i)) N O (expect_x X a i c) hO
    (fun T => by rw [← hN]; exact wpE_waitDma2_eq 𝒱₀ (c : Thread nD τ) none Set.univ T)

/-! ## Signalling and sending -/

/-- The device's two slots for a peer are what that peer's barrier takes from it. -/
theorem bar_paid (c : Dev nD) (k : Fin 7) :
    iprop(anySlot (F := F) rsM k c ∗ anySlot (F := F) agM k c) ⊢ (Rd X).payload ((peer k c : Thread nD τ), SemLoc.reg barrier0) 0 k := by
  refine .trans (Entails.of_eq ?_) (Entails.of_eq (payload_cell X (peer k c) none k).symm)
  show _ = barPay (F := F) k (peer k c)
  unfold barPay; rw [peer_peer]

/-- A transfer's cell has one duty in its round. -/
theorem x_duty (c : Dev nD) (a : Fin 4) (k : Fin 7) : (0 : Fin 7) ∈ (Rd X).duties (xCell a k c) 0 := by
  rw [show xCell a k c = kcell (c, some (a, k)) from rfl, duties_cell]; exact Finset.mem_singleton_self _

/-- The signals to the peers' barriers: each hands over the device's two slots for that peer. -/
theorem signals_run (c : Dev nD) (l : List (Fin 7)) (O : CellTallies nD τ sig Unit) {P : TP F} {Q : PUnit → sProp 𝕄} :
    iprop(env X K ∗ owing (F := F) c (debts (fun k => barCell (peer k c)) 1 l O)
        ∗ bigSepL l fun k => iprop(dutyTok ER (barCell (peer k c)) 0 k ∗ anySlot (F := F) rsM k c ∗ anySlot (F := F) agM k c))
      ⊢ iprop((owing (F := F) c O -∗ run c P Q) -∗ run c (signals (fun k => peer k c) l P) Q) := by
  induction l with
  | nil =>
    iintro ⟨-, HO, -⟩ Hk
    iapply Hk; iexact HO
  | cons k l ih =>
    rw [bigSepL_cons']
    unfold owing
    iintro ⟨#He, ⟨%W, HO⟩, ⟨Ht, Hrs, Hag⟩, Hl⟩ Hk
    unfold debts signals
    iapply (Rounds.wp_signal 𝒱₀ ER (Rd X) (c : Thread nD τ) none (dst := (peer k c : Thread nD τ)) (κ := K (peer k c, none))
      (d := k) (by rw [show (((peer k c : Dev nD) : Thread nD τ), SemLoc.reg barrier0) = kcell (peer k c, none) from rfl, duties_cell]; exact Finset.mem_univ _)
      (amount_cell X (peer k c) none k) () (debts (fun k => barCell (peer k c)) 1 l O) rfl) $$ [HO Ht Hrs Hag]
    · isplitr; · iapply (env_inv X K (peer k c, none)); iexact He
      isplitl [HO]; · iexact HO
      isplitl [Ht]; · iexact Ht
      isplitl [Hrs Hag]
      · iapply (bar_paid X c k)
        isplitl [Hrs] <;> iassumption
      iapply (env_reached X K (peer k c, none)); iexact He
    iintro HO
    iapply ih $$ [HO Hl]
    · isplitr; · iexact He
      isplitl [HO]; · unfold owing; iexists _; iexact HO
      iexact Hl
    unfold owing
    iexact Hk

/-- What a device holds of one transfer before it sends it: the rows and a slot of the peer's, and the two duties. -/
def parcel (c : Dev nD) (dst : Memref sig .tc .vmem S224x256 .bf16) (aS aR : Fin 4) (o : Rows) (q : PosShare TreeShare)
    (V : Vec F S32x256 .bf16) (k : Fin 7) : sProp 𝕄 :=
  iprop(owns (c : Thread nD τ) (stM.slice o.rect (fun _ => rfl)) q V ∗ anySlot (F := F) dst k (peer k c)
    ∗ dutyTok ER (xCell aS k c) 0 0 ∗ dutyTok ER (xCell aR k (peer k c)) 0 0)

/-- The sends to the peers. -/
theorem sends_run (c : Dev nD) (dst : Memref sig .tc .vmem S224x256 .bf16) (hd : dst.IsWhole) (hN : ∀ k, (dst.slice (slot k) (fun _ => rfl)).view.dmaCredit = N)
    (aS aR : Fin 4) (rows : Fin 7 → Rows) (q : Fin 7 → PosShare TreeShare) (V : Fin 7 → Vec F S32x256 .bf16)
    (hS : ∀ k, owns (c : Thread nD τ) (stM.slice (rows k).rect (fun _ => rfl)) (q k) (V k) ⊢ xPay X aS k c)
    (hR : ∀ k, owns (peer k c : Thread nD τ) (dst.slice (slot k) (fun _ => rfl)) fullShare (V k) ⊢ xPay X aR k (peer k c))
    (l : List (Fin 7)) (O : CellTallies nD τ sig Unit) {P : TP F} {Q : PUnit → sProp 𝕄} :
    iprop(env X K ∗ owing (F := F) c (debts (fun k => xCell aR k (peer k c)) N l O)
        ∗ bigSepL l fun k => parcel c dst aS aR (rows k) (q k) (V k) k)
      ⊢ iprop(((owing (F := F) c O ∗ bigSepL l fun k => cred (tallyAt (xCell aS k c) () N)) -∗ run c P Q)
        -∗ run c (sends dst hd (arm aS) (arm aR) (fun k => peer k c) rows l P) Q) := by
  induction l generalizing P with
  | nil =>
    iintro ⟨-, HO, Hl⟩ Hk
    iapply Hk; isplitl [HO]; · iexact HO
    iexact Hl
  | cons k l ih =>
    rw [bigSepL_cons', bigSepL_cons']
    unfold owing
    iintro ⟨#He, ⟨%W, HO⟩, Hp, Hl⟩ Hk
    unfold parcel anySlot owns
    icases Hp with ⟨⟨%fs, %hfs, Hsrc⟩, ⟨%Y, %fd, %hfd, Hdst⟩, HtS, HtR⟩
    unfold debts sends
    iapply (Rounds.wp_send_pointsTo 𝒱₀ ER (Rd X) (c : Thread nD τ) none (c' := (peer k c : Thread nD τ)) (κ₁ := K (c, some (aS, k))) (κ₂ := K (peer k c, some (aR, k)))
      (r₁ := 0) (r₂ := 0) (d₁ := 0) (d₂ := 0) (fs := fs) (fd := fd) (q := q k)
      (x_duty X c aS k) (x_duty X (peer k c) aR k)
      () () N (by exact hN k) (amount_cell X c (some (aS, k)) 0) (amount_cell X (peer k c) (some (aR, k)) 0)
      (debts (fun k => xCell aR k (peer k c)) N l O) rfl (W := W)
      (by
        refine .trans ?_ (Entails.of_eq (payload_cell X c (some (aS, k)) 0).symm)
        refine .trans ?_ (hS k)
        unfold owns; iintro H; iexists fs; isplitr; · ipureintro; exact hfs
        iexact H)
      (by
        refine .trans ?_ (Entails.of_eq (payload_cell X (peer k c) (some (aR, k)) 0).symm)
        refine .trans ?_ (hR k)
        unfold owns; iintro H; iexists _; isplitr
        rotate_left
        · iexact H
        ipureintro; rw [View.read_write_univ]; exact hfs)) $$ [HO Hsrc Hdst HtS HtR]
    · isplitr; · iapply (env_inv X K (c, some (aS, k))); iexact He
      isplitr; · iapply (env_inv X K (peer k c, some (aR, k))); iexact He
      isplitl [Hsrc]; · iexact Hsrc
      isplitl [Hdst]; · iexact Hdst
      isplitl [HO]; · iexact HO
      isplitl [HtS]; · iexact HtS
      isplitr; · iapply (env_reached X K (c, some (aS, k))); iexact He
      isplitl [HtR]; · iexact HtR
      iapply (env_reached X K (peer k c, some (aR, k))); iexact He
    iintro ⟨Hc, HO⟩
    iapply ih $$ [HO Hl]
    · isplitr; · iexact He
      isplitl [HO]; · unfold owing; iexists _; iexact HO
      iexact Hl
    unfold owing
    iintro ⟨HO, Hl⟩
    iapply Hk
    isplitl [HO]; · iexact HO
    isplitl [Hc] <;> iassumption

/-! ## The loops of waits -/

/-- The waits for the sends: the rows read come back, the cells end at zero. -/
theorem drains_run (c : Dev nD) (dst : Memref sig .tc .vmem S224x256 .bf16) (hd : dst.IsWhole) (a : Fin 4) (rows : Fin 7 → Rows) (l : List (Fin 7))
    (hN : ∀ k, (stM.slice (rows k).rect (fun _ => rfl)).view.dmaCredit = N) {P : TP F} {Q : PUnit → sProp 𝕄} :
    iprop(env X K ∗ owing (F := F) c 0 ∗ bigSepL l fun k => ticket (F := F) c (some (a, k)) N)
      ⊢ iprop(((owing (F := F) c 0 ∗ bigSepL l fun k => iprop(xPay X a k c ∗ semVal (xCell a k c) 0)) -∗ run c P Q)
        -∗ run c (drains dst hd (arm a) rows l P) Q) := by
  induction l generalizing P with
  | nil =>
    iintro ⟨-, HO, Hl⟩ Hk
    iapply Hk; isplitl [HO]; · iexact HO
    iexact Hl
  | cons k l ih =>
    rw [bigSepL_cons', bigSepL_cons']
    iintro ⟨#He, HO, Ht, Hl⟩ Hk
    unfold drains
    iapply (wait_x X K c a k 0 (above_zero _) (hN k)) $$ [HO Ht]
    · isplitr; · iexact He
      isplitl [HO] <;> iassumption
    iintro ⟨HO, Hp, Hz⟩
    iapply ih $$ [HO Hl]
    · isplitr; · iexact He
      isplitl [HO] <;> iassumption
    iintro ⟨HO, Hl⟩
    iapply Hk
    isplitl [HO]; · iexact HO
    isplitl [Hp Hz]
    · isplitl [Hp] <;> iassumption
    iexact Hl

/-- One arrival: the wait and the read of the slot. -/
theorem recv_run (c : Dev nD) (dst : Memref sig .tc .vmem S224x256 .bf16) (hd : dst.IsWhole) (a : Fin 4) (i : Fin 7) (V : Vec F S32x256 .bf16)
    (hN : (dst.slice (slot i) (fun _ => rfl)).view.dmaCredit = N)
    (hV : xPay X a i c ⊢ owns (c : Thread nD τ) (dst.slice (slot i) (fun _ => rfl)) fullShare V)
    (O : CellTallies nD τ sig Unit) (hO : Above (lvOf (some (some (a, i)))) O) {P : Vec F S32x256 .bf16 → TP F} {Q : PUnit → sProp 𝕄} :
    iprop(env X K ∗ owing (F := F) c O ∗ ticket (F := F) c (some (a, i)) N)
      ⊢ iprop(((owing (F := F) c O ∗ anySlot (F := F) dst i c ∗ semVal (xCell a i c) 0) -∗ run c (P V) Q)
        -∗ run c (recv dst hd (arm a) i P) Q) := by
  iintro H Hk
  unfold recv
  iapply (wait_x X K c a i O hO hN) $$ H
  iintro ⟨HO, Hp, Hz⟩
  ihave Hp := hV $$ Hp
  iapply (load_slice c dst (slot i) (fun _ => rfl) fullShare V) $$ Hp
  iintro Hp
  iapply Hk
  isplitl [HO]; · iexact HO
  isplitl [Hp]; · unfold anySlot; iexists V; iexact Hp
  iexact Hz

/-- The partial sums arrive and are added up. -/
theorem reduces_run (c : Dev nD) (hN : ∀ k, (rsM.slice (slot k) (fun _ => rfl)).view.dmaCredit = N) (O : CellTallies nD τ sig Unit) (hO : Above 2 O)
    (l : List (Fin 7)) (acc : FVec F S32x256 .f32) {P : FVec F S32x256 .f32 → TP F} {Q : PUnit → sProp 𝕄} :
    iprop(env X K ∗ owing (F := F) c O ∗ bigSepL l fun k => ticket (F := F) c (some (1, k)) N)
      ⊢ iprop(((owing (F := F) c O ∗ bigSepL l fun k => iprop(anySlot (F := F) rsM k c ∗ semVal (xCell 1 k c) 0))
          -∗ run c (P (l.foldl (fun acc k => addIn acc (sentTo X (peer k c) (gray c))) acc)) Q)
        -∗ run c (reduces cc0_scratch4 l acc P) Q) := by
  induction l generalizing acc with
  | nil =>
    iintro ⟨-, HO, Hl⟩ Hk
    iapply Hk; isplitl [HO]; · iexact HO
    iexact Hl
  | cons k l ih =>
    rw [bigSepL_cons', bigSepL_cons']
    iintro ⟨#He, HO, Ht, Hl⟩ Hk
    unfold reduces
    iapply (recv_run X K c rsM (Memref.isWhole_whole _) 1 k (sentTo X (peer k c) (gray c)) (hN k) (Entails.of_eq rfl) O hO) $$ [HO Ht]
    · isplitr; · iexact He
      isplitl [HO] <;> iassumption
    iintro ⟨HO, Hp, Hz⟩
    iapply ih $$ [HO Hl]
    · isplitr; · iexact He
      isplitl [HO] <;> iassumption
    iintro ⟨HO, Hl⟩
    iapply Hk
    isplitl [HO]; · iexact HO
    isplitl [Hp Hz]
    · isplitl [Hp] <;> iassumption
    iexact Hl

/-- A block of the result is stored over whatever it held. -/
theorem put_run (c : Dev nD) (o : Rows) (A w : Vec F S32x256 .f32) {P : TP F} {Q : PUnit → sProp 𝕄} :
    owns (c : Thread nD τ) (outM.slice o.rect (fun _ => rfl)) fullShare A
      ⊢ iprop((owns (c : Thread nD τ) (outM.slice o.rect (fun _ => rfl)) fullShare w -∗ run c P Q) -∗ run c (put o w P) Q) := by
  iintro H Hk
  unfold put
  iapply (load_slice c outM o.rect (fun _ => rfl) fullShare A) $$ H
  iintro H
  iapply (store_slice c outM o.rect (fun _ => rfl) A w) $$ H
  iexact Hk

/-- The finished blocks arrive and are stored in their rows of the result. -/
theorem gathers_run (c : Dev nD) (hN : ∀ k, (agM.slice (slot k) (fun _ => rfl)).view.dmaCredit = N)
    (rows : Fin 7 → Rows) (A : Fin 7 → Vec F S32x256 .f32) (l : List (Fin 7)) {P : TP F} {Q : PUnit → sProp 𝕄} :
    iprop(env X K ∗ owing (F := F) c 0 ∗ (bigSepL l fun k => ticket (F := F) c (some (3, k)) N)
        ∗ bigSepL l fun k => owns (c : Thread nD τ) (outM.slice (rows k).rect (fun _ => rfl)) fullShare (A k))
      ⊢ iprop(((owing (F := F) c 0 ∗ (bigSepL l fun k => iprop(anySlot (F := F) agM k c ∗ semVal (xCell 3 k c) 0))
            ∗ bigSepL l fun k => owns (c : Thread nD τ) (outM.slice (rows k).rect (fun _ => rfl)) fullShare (outBlk X c (some k)))
          -∗ run c P Q)
        -∗ run c (gathers cc0_scratch6 rows l P) Q) := by
  induction l generalizing P with
  | nil =>
    iintro ⟨-, HO, Hl, Hm⟩ Hk
    iapply Hk; isplitl [HO]; · iexact HO
    isplitl [Hl]; · iexact Hl
    iexact Hm
  | cons k l ih =>
    rw [bigSepL_cons', bigSepL_cons', bigSepL_cons', bigSepL_cons']
    iintro ⟨#He, HO, ⟨Ht, Hl⟩, Ho, Hm⟩ Hk
    unfold gathers
    iapply (recv_run X K c agM (Memref.isWhole_whole _) 3 k (totalN X (peer k c)) (hN k) (Entails.of_eq rfl) 0 (above_zero _)) $$ [HO Ht]
    · isplitr; · iexact He
      isplitl [HO] <;> iassumption
    iintro ⟨HO, Hp, Hz⟩
    iapply (put_run c (rows k) (A k)) $$ Ho
    iintro Ho
    iapply ih $$ [HO Hl Hm]
    · isplitr; · iexact He
      isplitl [HO]; · iexact HO
      isplitl [Hl] <;> iassumption
    iintro ⟨HO, Hl, Hm⟩
    iapply Hk
    isplitl [HO]; · iexact HO
    isplitl [Hp Hz Hl]
    · isplitl [Hp Hz]
      · isplitl [Hp] <;> iassumption
      iexact Hl
    isplitl [Ho]; · iexact Ho
    iexact Hm

end Cert.KernelIdeal.Steps

end
-- ==== Proof.Parts.lean ====
/- Arrays taken apart and put together: an array of 256 rows by row blocks, a receive buffer by slots, a block of rows by
   read shares, and a family over a device's cells by use. -/
module

public import proofs.«01_k».proof.Proof.Steps
public import Idealize.ShloMosaic.Lib.MemrefSat
public import Idealize.ShloMosaic.Lib.Pipeline.TableIdle

@[expose] public section

noncomputable section

namespace Cert.KernelIdeal.Parts

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Mesh Cert.KernelIdeal.Program Cert.KernelIdeal.Contents Cert.KernelIdeal.Cells Cert.KernelIdeal.Steps

variable {F : FTy → Type} [FloatOps F]

local notation "𝕄" => MT nD τ sig Unit (Elt F) ℕ UU ℕ

/-! ## Families -/

/-- A family over the peers is the list of its members, in either order. -/
theorem univ_up (Φ : Fin 7 → sProp 𝕄) : bigSep Finset.univ Φ = bigSepL up Φ := bigSep_univ_eq_bigSepL up (by decide) (by decide) Φ
theorem univ_down (Φ : Fin 7 → sProp 𝕄) : bigSep Finset.univ Φ = bigSepL down Φ := bigSep_univ_eq_bigSepL down (by decide) (by decide) Φ

/-- A family over a device and its peers. -/
theorem univ_option (Φ : Option (Fin 7) → sProp 𝕄) :
    bigSep Finset.univ Φ = iprop(Φ none ∗ bigSep Finset.univ fun k => Φ (some k)) := by
  rw [bigSep_univ_eq_bigSepL (none :: up.map some) (by decide) (by decide), bigSepL_cons', bigSepL_map, univ_up]

/-- A family over a device's transfer cells, by use, -/
theorem univ_arms (Φ : Fin 4 × Fin 7 → sProp 𝕄) :
    bigSep Finset.univ Φ = iprop((bigSep Finset.univ fun k => Φ (0, k)) ∗ (bigSep Finset.univ fun k => Φ (1, k))
      ∗ (bigSep Finset.univ fun k => Φ (2, k)) ∗ bigSep Finset.univ fun k => Φ (3, k)) := by
  rw [bigSep_univ_prod]
  exact bigSep_univ_eq_bigSepL [0, 1, 2, 3] (by decide) (by decide) fun a => bigSep Finset.univ fun k => Φ (a, k)

/-- and over all its cells. -/
theorem univ_cells (Φ : CI → sProp 𝕄) :
    bigSep Finset.univ Φ = iprop(Φ none ∗ bigSep Finset.univ fun x => Φ (some x)) := by
  rw [show (Finset.univ : Finset CI) = insert none (Finset.univ.map ⟨some, Option.some_injective _⟩) from by
    ext x; cases x <;> simp, bigSep_insert (by simp), bigSep_map]; rfl

/-- Two families at once. -/
theorem both (A B : Fin 7 → sProp 𝕄) :
    bigSep Finset.univ (fun k => iprop(A k ∗ B k)) = iprop(bigSep Finset.univ A ∗ bigSep Finset.univ B) := bigSep_sep' _ _ _

/-! ## Rows, slots, shares -/

section Rows
variable {e : EltTy} (c : Dev nD) (M : Memref sig .tc .vmem S256x256 e) (q : PosShare TreeShare)

/-- An array of 256 rows is its row blocks: the device's own, and one for each peer. -/
theorem rows_split (A : Vec F S256x256 e) :
    (owns (c : Thread nD τ) M q A : sProp 𝕄)
      ⊢ iprop(owns (c : Thread nD τ) (M.slice (block (gray c)).rect (fun _ => rfl)) q (rowsOf (gray c) A)
        ∗ bigSep Finset.univ fun k => owns (c : Thread nD τ) (M.slice (block (gray (peer k c))).rect (fun _ => rfl)) q (rowsOf (gray (peer k c)) A)) := by
  refine (owns_rects (c : Thread nD τ) M q (fun t => (block (rowOf c t)).rect) (fun _ _ => rfl) (around_disjoint c) (around_cover c) A).trans ?_
  rw [univ_option]; exact .rfl

/-- Row blocks make the array glued from them. -/
theorem rows_join (B : Option (Fin 7) → Vec F S32x256 e) :
    iprop(owns (c : Thread nD τ) (M.slice (block (gray c)).rect (fun _ => rfl)) q (B none)
        ∗ bigSep Finset.univ fun k => owns (c : Thread nD τ) (M.slice (block (gray (peer k c))).rect (fun _ => rfl)) q (B (some k)))
      ⊢ (owns (c : Thread nD τ) M q (glue c B) : sProp 𝕄) := by
  refine .trans ?_ (owns_of_rects (c : Thread nD τ) M q (fun t => (block (rowOf c t)).rect) (fun _ _ => rfl) (around_disjoint c) (around_cover c) (glue c B))
  refine (Entails.of_eq (univ_option fun t => owns (c : Thread nD τ) (M.slice (block (rowOf c t)).rect (fun _ => rfl)) q (B t)).symm).trans ?_
  exact bigSep_mono fun t _ => Entails.of_eq (congrArg (owns _ _ q) (rowsOf_glue c B t).symm)

end Rows

section Slots
variable (c : Dev nD) (M : Memref sig .tc .vmem S224x256 .bf16)

/-- A slot at known contents is one at some contents. -/
theorem slot_any (k : Fin 7) (V : Vec F S32x256 .bf16) :
    (owns (c : Thread nD τ) (M.slice (slot k) (fun _ => rfl)) fullShare V : sProp 𝕄) ⊢ anySlot (F := F) M k c := by
  unfold anySlot; iintro H; iexists V; iexact H

/-- A receive buffer is its slots. -/
theorem slots_split : iprop(∃ Y, owns (c : Thread nD τ) M fullShare Y) ⊢ (bigSep Finset.univ fun k => anySlot (F := F) M k c : sProp 𝕄) := by
  iintro ⟨%Y, H⟩
  iapply (show (owns (c : Thread nD τ) M fullShare Y : sProp 𝕄) ⊢ bigSep Finset.univ fun k => anySlot (F := F) M k c from
    (owns_rects (c : Thread nD τ) M fullShare slot (fun _ _ => rfl) slots_disjoint slots_cover Y).trans
      (bigSep_mono fun k _ => slot_any c M k _))
  iexact H

/-- Its slots are a receive buffer. -/
theorem slots_join :
    (bigSep Finset.univ fun k => anySlot (F := F) M k c : sProp 𝕄) ⊢ iprop(∃ Y, owns (c : Thread nD τ) M fullShare Y) := by
  have : ∀ e, Nonempty (Elt F e) := Elt.nonempty F
  unfold anySlot
  refine (BI.bigSep_exists_pi Finset.univ (fun k Y => (owns (c : Thread nD τ) (M.slice (slot k) (fun _ => rfl)) fullShare Y : sProp 𝕄))).trans ?_
  iintro ⟨%Y, H⟩
  iexists (Rect.glue slot slots_cover Y)
  iapply (owns_of_rects (c : Thread nD τ) M fullShare slot (fun _ _ => rfl) slots_disjoint slots_cover (Rect.glue slot slots_cover Y))
  simp only [fun k => show (fun j => Rect.glue slot slots_cover Y ((slot k).emb j)) = Y k from
    funext fun j => Rect.glue_emb slot slots_cover slots_disjoint Y k j]
  iexact H

end Slots

/-- Rows owned in full are a rest and seven read shares. -/
theorem shares (c : Dev nD) {s : Shape} {e : EltTy} (M : Memref sig .tc .vmem s e) (A : Vec F s e) :
    (owns (c : Thread nD τ) M fullShare A : sProp 𝕄)
      = iprop(owns (c : Thread nD τ) M (Transfers.shareDrop fullShare 7) A ∗ bigSep Finset.univ fun k => owns (c : Thread nD τ) M (share k) A) := by
  simp only [owns_eq_rep]
  exact Entails.antisymm (Transfers.pointsTo_toks_split fullShare 7) (Transfers.pointsTo_toks_join fullShare 7)

/-! ## Whole arrays -/

/-- The rectangle of all 256 rows. -/
abbrev allRows : Rect S256x256 := Rect.unit (s := S256x256) ![0, 0] S256x256.size inb_S256x256_S256x256_0_0

theorem zeros : (![0, 0] : Fin 2 → ℕ) = fun _ => 0 := funext fun a => by fin_cases a <;> rfl

theorem allRows_emb (j : S256x256.Idx) : allRows.emb j = j := by
  funext a; apply Fin.ext
  fin_cases a <;> exact (Nat.zero_add _).trans (Nat.one_mul _)

/-- A load of a whole owned array reads it. -/
theorem load_all {e : EltTy} (c : Dev nD) (M : Memref sig .tc .vmem S256x256 e) (q : PosShare TreeShare) (A : Vec F S256x256 e)
    {hl : M.view.LoadsAt allRows.toLoadRect} {k : Vec F S256x256 e → TP F} {Q : PUnit → sProp 𝕄} :
    (owns (c : Thread nD τ) M q A : sProp 𝕄)
      ⊢ iprop((owns (c : Thread nD τ) M q A -∗ run c (k A) Q) -∗ run c (.op (.load M allRows.toLoadRect hl) k) Q) := by
  have h := load_part c M allRows q A (hl := hl) (k := k) (Q := Q)
  rwa [show (fun j => A (allRows.emb j)) = A from funext fun j => congrArg A (allRows_emb j)] at h

/-- A store over the whole narrowed copy leaves what was stored. -/
theorem store_all (c : Dev nD) (A w : Vec F S256x256 .bf16) {hx : (stM.access allRows).Stores Finset.univ}
    {hm : (Finset.univ : Finset allRows.shape.Idx) = Finset.univ ∨ ∀ a, allRows.stride a = 1} {k : PUnit → TP F} {Q : PUnit → sProp 𝕄} :
    (owns (c : Thread nD τ) stM fullShare A : sProp 𝕄)
      ⊢ iprop((owns (c : Thread nD τ) stM fullShare w -∗ run c (k ⟨⟩) Q) -∗ run c (.op (.store stM allRows w Finset.univ hx hm) k) Q) := by
  unfold owns
  iintro ⟨%f, %hf, H⟩ Hk
  iapply (wp_store 𝒱₀ (c : Thread nD τ) none Set.univ (m := stM) (r := allRows) (Mk := Finset.univ) (S := stM.view.set) (View.set_slice_subset _ _)) $$ H
  iintro H
  iapply Hk; iexists _; isplitr
  rotate_left
  · iexact H
  ipureintro; exact (View.read_whole cc0_scratch0 _).trans (Memref.write_access_unit_zero_univ (Elt F) cc0_scratch0 zeros _ f w)

end Cert.KernelIdeal.Parts

end
-- ==== Proof.Exchange.lean ====
/- One device's run of the whole exchange: from its input, its credits and its tokens to the result, with everything else
   handed back. -/
module

public import proofs.«01_k».proof.Proof.Parts

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Mesh Cert.KernelIdeal.Program Cert.KernelIdeal.Contents Cert.KernelIdeal.Cells Cert.KernelIdeal.Steps
open Cert.KernelIdeal.Parts

variable {F : FTy → Type} [FloatOps F]

local notation "𝕄" => MT nD τ sig Unit (Elt F) ℕ UU ℕ

/-! ## What a device starts from and ends with -/

/-- The debts of the finished blocks, of the partial sums too, and of the barrier units too. -/
abbrev owedAg (c : Dev nD) : CellTallies nD τ sig Unit := debts (fun k => xCell 3 k (peer k c)) N up 0
abbrev owedRs (c : Dev nD) : CellTallies nD τ sig Unit := debts (fun k => xCell 1 k (peer k c)) N up (owedAg c)
abbrev owedAll (c : Dev nD) : CellTallies nD τ sig Unit := debts (fun k => barCell (peer k c)) 1 up (owedRs c)

theorem above_ag (b : ℕ) (hb : b < 3) (c : Dev nD) : Above b (owedAg c) :=
  above_debts b (fun k => some (3, k)) (fun k => peer k c) N (fun _ => hb) up 0 (above_zero b)
theorem above_rs (c : Dev nD) : Above 1 (owedRs c) :=
  above_debts 1 (fun k => some (1, k)) (fun k => peer k c) N (fun _ => Nat.lt_succ_self 1) up _ (above_ag 1 (by decide) c)

/-- The tokens of the duties device `c` pays: on its peers' barriers, -/
def barToks (c : Dev nD) : sProp 𝕄 := bigSep Finset.univ fun k => dutyTok ER (barCell (peer k c)) 0 k
/-- on its own cells of use `a`, -/
def ownToks (a : Fin 4) (c : Dev nD) : sProp 𝕄 := bigSep Finset.univ fun k => dutyTok ER (xCell a k c) 0 0
/-- on its peers' cells of use `a`. -/
def peerToks (a : Fin 4) (c : Dev nD) : sProp 𝕄 := bigSep Finset.univ fun k => dutyTok ER (xCell a k (peer k c)) 0 0

/-- All of them. -/
def payToks (c : Dev nD) : sProp 𝕄 :=
  iprop(barToks (F := F) c ∗ ownToks (F := F) 0 c ∗ peerToks (F := F) 1 c ∗ ownToks (F := F) 2 c ∗ peerToks (F := F) 3 c)

/-- Its places at its cells. -/
def places (c : Dev nD) : sProp 𝕄 := bigSep Finset.univ fun x : CI => atPos ER (kcell (c, x)) 0 ∅ 0

/-- The credits its peers' debts give it: on its barrier and for the arrivals of use `a`. -/
def arrivals (a : Fin 4) (c : Dev nD) : sProp 𝕄 := bigSep Finset.univ fun k => cred (tallyAt (xCell a k c) () N)
def credits (c : Dev nD) : sProp 𝕄 := iprop(cred (tallyAt (barCell c) () 7) ∗ arrivals (F := F) 1 c ∗ arrivals (F := F) 3 c)

/-- A buffer at some contents. -/
def some_ (c : Dev nD) {s : Shape} {e : EltTy} (M : Memref sig .tc .vmem s e) : sProp 𝕄 := iprop(∃ A, owns (c : Thread nD τ) M fullShare A)

/-- Its three scratch buffers at some contents. -/
def scratches (c : Dev nD) : sProp 𝕄 := iprop(some_ (F := F) c stM ∗ some_ (F := F) c rsM ∗ some_ (F := F) c agM)

/-- Its cells, all at zero. -/
def zeroed (c : Dev nD) : sProp 𝕄 := bigSep Finset.univ fun x : CI => semVal (kcell (c, x)) 0

variable (X : Dev nD → Vec F S256x256 .f32) (K : Dev nD × CI → ℕ)

/-- What it starts from, beside what every device knows. -/
def before (c : Dev nD) : sProp 𝕄 :=
  iprop(owing (F := F) c (owedAll c) ∗ places (F := F) c ∗ payToks (F := F) c ∗ credits (F := F) c ∗ owns (c : Thread nD τ) inM fullShare (X c) ∗ some_ (F := F) c outM ∗ scratches (F := F) c)

/-- What it ends with. -/
def after (c : Dev nD) : sProp 𝕄 :=
  iprop(owing (F := F) c 0 ∗ owns (c : Thread nD τ) inM fullShare (X c) ∗ owns (c : Thread nD τ) outM fullShare (outArr X c) ∗ scratches (F := F) c ∗ zeroed (F := F) c)

/-! ## The run -/

/-- Tickets from credits and places. -/
theorem tickets (a : Fin 4) (c : Dev nD) :
    iprop((bigSep Finset.univ fun k => cred (tallyAt (xCell a k c) () N)) ∗ (bigSep Finset.univ fun k => atPos ER (xCell a k c) 0 ∅ 0))
      ⊢ (bigSep Finset.univ fun k => ticket (F := F) c (some (a, k)) N : sProp 𝕄) :=
  Entails.of_eq (both _ _).symm

/-- The parcels of the first sends. -/
theorem parcels (c : Dev nD) (dst : Memref sig .tc .vmem S224x256 .bf16) (aS aR : Fin 4) (rows : Fin 7 → Rows) (q : Fin 7 → PosShare TreeShare)
    (V : Fin 7 → Vec F S32x256 .bf16) :
    iprop((bigSep Finset.univ fun k => owns (c : Thread nD τ) (stM.slice (rows k).rect (fun _ => rfl)) (q k) (V k))
        ∗ (bigSep Finset.univ fun k => anySlot (F := F) dst k (peer k c)) ∗ ownToks (F := F) aS c ∗ peerToks (F := F) aR c)
      ⊢ (bigSepL up fun k => parcel c dst aS aR (rows k) (q k) (V k) k : sProp 𝕄) := by
  unfold ownToks peerToks parcel
  rw [← univ_up, both, both, both]

/-- A peer's slot filled with a device's rows is what that peer's arrival hands over: for a partial sum, -/
theorem rs_filled (c : Dev nD) (k : Fin 7) :
    (owns (peer k c : Thread nD τ) (rsM.slice (slot k) (fun _ => rfl)) fullShare (sentTo X c (gray (peer k c))) : sProp 𝕄) ⊢ xPay X 1 k (peer k c) := by
  show _ ⊢ rsGot X k (peer k c)
  unfold rsGot; rw [peer_peer]
/-- and for a finished block. -/
theorem ag_filled (c : Dev nD) (k : Fin 7) :
    (owns (peer k c : Thread nD τ) (agM.slice (slot k) (fun _ => rfl)) fullShare (totalN X c) : sProp 𝕄) ⊢ xPay X 3 k (peer k c) := by
  show _ ⊢ agGot X k (peer k c)
  unfold agGot; rw [peer_peer]

/-- What the barrier hands over: every peer's two slots. -/
theorem bar_slots (c : Dev nD) :
    (bigSep Finset.univ fun k => barPay (F := F) k c : sProp 𝕄)
      ⊢ iprop((bigSep Finset.univ fun k => anySlot (F := F) rsM k (peer k c)) ∗ bigSep Finset.univ fun k => anySlot (F := F) agM k (peer k c)) :=
  Entails.of_eq (both _ _)

/-- The narrowed copy put together from the block of the finished sum and the blocks that were sent. -/
theorem copy_join (c : Dev nD) :
    iprop(owns (c : Thread nD τ) (stM.slice (block (gray c)).rect (fun _ => rfl)) fullShare (totalN X c) ∗ bigSep Finset.univ fun k => xPay X 0 k c)
      ⊢ (some_ (F := F) c stM : sProp 𝕄) := by
  unfold some_
  iintro H
  iexists _
  iapply (show iprop(owns (c : Thread nD τ) (stM.slice (block (gray c)).rect (fun _ => rfl)) fullShare (totalN X c) ∗ bigSep Finset.univ fun k => xPay X 0 k c) ⊢ _ from
    rows_join c stM fullShare fun t => t.elim (totalN X c) fun k => sentTo X c (gray (peer k c)))
  iexact H

/-- The finished block's rows, whole again. -/
theorem block_join (c : Dev nD) :
    iprop(owns (c : Thread nD τ) (stM.slice (block (gray c)).rect (fun _ => rfl)) (Transfers.shareDrop fullShare 7) (totalN X c) ∗ bigSep Finset.univ fun k => xPay X 2 k c)
      ⊢ (owns (c : Thread nD τ) (stM.slice (block (gray c)).rect (fun _ => rfl)) fullShare (totalN X c) : sProp 𝕄) :=
  Entails.of_eq (shares c (stM.slice (block (gray c)).rect (fun _ => rfl)) (totalN X c)).symm

/-- The result put together from its row blocks. -/
theorem out_join (c : Dev nD) :
    iprop(owns (c : Thread nD τ) (outM.slice (block (gray c)).rect (fun _ => rfl)) fullShare (total X c)
        ∗ bigSep Finset.univ fun k => owns (c : Thread nD τ) (outM.slice (block (gray (peer k c))).rect (fun _ => rfl)) fullShare (outBlk X c (some k)))
      ⊢ (owns (c : Thread nD τ) outM fullShare (outArr X c) : sProp 𝕄) :=
  rows_join c outM fullShare (outBlk X c)

/-- The whole run on device `c`. -/
theorem exchange (c : Dev nD) {Q : PUnit → sProp 𝕄} :
    iprop(env X K ∗ before X c) ⊢ iprop((after X c -∗ Q ⟨⟩) -∗ run c (loops (plan c)) Q) := by
  unfold before payToks credits arrivals places scratches some_
  rw [univ_cells, univ_arms]
  iintro ⟨#He, HO, ⟨HatB, Hat0, Hat1, Hat2, Hat3⟩, ⟨HtB, Ht0, Ht1, Ht2, Ht3⟩, ⟨HcB, Hc1, Hc3⟩, Hin, ⟨%A, Hout⟩, ⟨%A0, Hst⟩, Hrs, Hag⟩ Hk
  ihave Hrs := (slots_split c rsM) $$ Hrs
  ihave Hag := (slots_split c agM) $$ Hag
  unfold loops
  -- the barrier units
  iapply (signals_run X K c up (owedRs c)) $$ [HO HtB Hrs Hag]
  · isplitr; · iexact He
    isplitl [HO]; · iexact HO
    rw [← univ_up, both, both]
    isplitl [HtB]; · unfold barToks; iexact HtB
    isplitl [Hrs] <;> iassumption
  iintro HO
  -- the narrowed copy
  iapply (load_all c inM fullShare (X c)) $$ Hin
  iintro Hin
  iapply (load_all c stM fullShare A0) $$ Hst
  iintro Hst
  iapply (store_all c A0 (k0_pay1 (X c))) $$ Hst
  iintro Hst
  ihave Hst := (show (owns (c : Thread nD τ) stM fullShare (k0_pay1 (X c)) : sProp 𝕄) ⊢ _ from rows_split c stM fullShare (narrowed X c)) $$ Hst
  icases Hst with ⟨HstM, HstP⟩
  -- the peers are ready
  iapply (wait_bar X K c (owedRs c) (above_rs c)) $$ [HO HcB HatB]
  · isplitr; · iexact He
    isplitl [HO]; · iexact HO
    unfold ticket; isplitl [HcB] <;> iassumption
  iintro ⟨HO, Hslots, HzB⟩
  ihave Hslots := (bar_slots (F := F) c) $$ Hslots
  icases Hslots with ⟨HrsP, HagP⟩
  -- the partial sums leave
  iapply (sends_run X K c rsM (Memref.isWhole_whole _) (fun _ => rfl) 0 1 (fun k => block (gray (peer k c))) (fun _ => fullShare)
      (fun k => sentTo X c (gray (peer k c))) (fun k => Entails.of_eq rfl)
      (rs_filled X c) up (owedAg c)) $$ [HO HstP HrsP Ht0 Ht1]
  · isplitr; · iexact He
    isplitl [HO]; · iexact HO
    iapply (parcels c rsM 0 1)
    isplitl [HstP]; · iexact HstP
    isplitl [HrsP]; · iexact HrsP
    isplitl [Ht0] <;> iassumption
  iintro ⟨HO, Hc0⟩
  ihave Hc0 := (Entails.of_eq (univ_up _).symm) $$ Hc0
  -- its own rows, and the partial sums that arrive
  iapply (load_part c inM (block (gray c)).rect fullShare (X c)) $$ Hin
  iintro Hin
  iapply (reduces_run X K c (fun _ => rfl) (owedAg c) (above_ag 2 (by decide) c) down) $$ [HO Hc1 Hat1]
  · isplitr; · iexact He
    isplitl [HO]; · iexact HO
    rw [← univ_down]
    iapply (tickets 1 c); isplitl [Hc1] <;> iassumption
  iintro ⟨HO, Hr⟩
  ihave Hr := (Entails.of_eq ((univ_down _).symm.trans (both (fun k => anySlot (F := F) rsM k c) (fun k => semVal (xCell 1 k c) 0)))) $$ Hr
  icases Hr with ⟨Hrs, Hz1⟩
  -- the finished block: stored, narrowed, and lent to the seven sends
  ihave Hout := (rows_split c outM fullShare A) $$ Hout
  icases Hout with ⟨HoutM, HoutP⟩
  iapply (put_run c (block (gray c)) (rowsOf (gray c) A) (total X c)) $$ HoutM
  iintro HoutM
  iapply (load_slice c stM (block (gray c)).rect (fun _ => rfl) fullShare (rowsOf (gray c) (narrowed X c))) $$ HstM
  iintro HstM
  iapply (store_slice c stM (block (gray c)).rect (fun _ => rfl) (rowsOf (gray c) (narrowed X c)) (totalN X c)) $$ HstM
  iintro HstM
  ihave HstM := (Entails.of_eq (shares c (stM.slice (block (gray c)).rect (fun _ => rfl)) (totalN X c))) $$ HstM
  icases HstM with ⟨HstR, HstS⟩
  iapply (sends_run X K c agM (Memref.isWhole_whole _) (fun _ => rfl) 2 3 (fun _ => block (gray c)) share
      (fun _ => totalN X c) (fun k => Entails.of_eq rfl)
      (ag_filled X c) up 0) $$ [HO HstS HagP Ht2 Ht3]
  · isplitr; · iexact He
    isplitl [HO]; · iexact HO
    iapply (parcels c agM 2 3)
    isplitl [HstS]; · iexact HstS
    isplitl [HagP]; · iexact HagP
    isplitl [Ht2] <;> iassumption
  iintro ⟨HO, Hc2⟩
  ihave Hc2 := (Entails.of_eq (univ_up _).symm) $$ Hc2
  -- the peers' finished blocks
  iapply (gathers_run X K c (fun _ => rfl) (fun k => block (gray (peer k c))) (fun k => rowsOf (gray (peer k c)) A) down) $$ [HO Hc3 Hat3 HoutP]
  · isplitr; · iexact He
    isplitl [HO]; · iexact HO
    rw [← univ_down, ← univ_down]
    isplitl [Hc3 Hat3]
    · iapply (tickets 3 c); isplitl [Hc3] <;> iassumption
    iexact HoutP
  iintro ⟨HO, Hg, HoutP⟩
  ihave Hg := (Entails.of_eq ((univ_down _).symm.trans (both (fun k => anySlot (F := F) agM k c) (fun k => semVal (xCell 3 k c) 0)))) $$ Hg
  icases Hg with ⟨Hag, Hz3⟩
  ihave HoutP := (Entails.of_eq (univ_down _).symm) $$ HoutP
  -- the sends have left
  iapply (drains_run X K c rsM (Memref.isWhole_whole _) 0 (fun k => block (gray (peer k c))) up (fun _ => rfl)) $$ [HO Hc0 Hat0]
  · isplitr; · iexact He
    isplitl [HO]; · iexact HO
    rw [← univ_up]
    iapply (tickets 0 c); isplitl [Hc0] <;> iassumption
  iintro ⟨HO, Hd⟩
  ihave Hd := (Entails.of_eq ((univ_up _).symm.trans (both (fun k => xPay X 0 k c) (fun k => semVal (xCell 0 k c) 0)))) $$ Hd
  icases Hd with ⟨HstP, Hz0⟩
  iapply (drains_run X K c agM (Memref.isWhole_whole _) 2 (fun _ => block (gray c)) up (fun _ => rfl)) $$ [HO Hc2 Hat2]
  · isplitr; · iexact He
    isplitl [HO]; · iexact HO
    rw [← univ_up]
    iapply (tickets 2 c); isplitl [Hc2] <;> iassumption
  iintro ⟨HO, Hd⟩
  ihave Hd := (Entails.of_eq ((univ_up _).symm.trans (both (fun k => xPay X 2 k c) (fun k => semVal (xCell 2 k c) 0)))) $$ Hd
  icases Hd with ⟨HstS, Hz2⟩
  -- all of it back together
  ihave HstM := (block_join X c) $$ [HstR HstS]
  · isplitl [HstR] <;> iassumption
  ihave Hst := (copy_join X c) $$ [HstM HstP]
  · isplitl [HstM] <;> iassumption
  ihave Hout := (out_join X c) $$ [HoutM HoutP]
  · isplitl [HoutM] <;> iassumption
  ihave Hrs := (slots_join c rsM) $$ Hrs
  ihave Hag := (slots_join c agM) $$ Hag
  unfold run; rw [wp_ret]; imodintro
  iapply Hk
  unfold after scratches zeroed
  rw [univ_cells, univ_arms]
  isplitl [HO]; · iexact HO
  isplitl [Hin]; · iexact Hin
  isplitl [Hout]; · iexact Hout
  isplitl [Hst Hrs Hag]
  · isplitl [Hst]; · iexact Hst
    isplitl [Hrs]
    · unfold some_; iexact Hrs
    unfold some_; iexact Hag
  isplitl [HzB]; · iexact HzB
  isplitl [Hz0]; · iexact Hz0
  isplitl [Hz1]; · iexact Hz1
  isplitl [Hz2] <;> iassumption

end Cert.KernelIdeal.Exchange

end
-- ==== Proof.Deal.lean ====
/- What the devices are dealt at the start: the cells and tokens minted, each token passed to the device that pays the duty,
   and the credits that the peers' debts amount to. -/
module

public import proofs.«01_k».proof.Proof.Exchange

@[expose] public section

noncomputable section

namespace Cert.KernelIdeal.Deal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Mesh Cert.KernelIdeal.Program Cert.KernelIdeal.Contents Cert.KernelIdeal.Cells Cert.KernelIdeal.Steps
open Cert.KernelIdeal.Parts Cert.KernelIdeal.Exchange

variable {F : FTy → Type} [FloatOps F]

local notation "𝕄" => MT nD τ sig Unit (Elt F) ℕ UU ℕ

/-! ## Cells and tokens -/

def allCells : Finset (GSem nD τ sig) := Finset.univ.map ⟨kcell, kcell_injective⟩

/-- The duties of a device's cells: the seven on its barrier, one on each transfer cell. -/
def tokOf (x : Dev nD × Option (Fin 4) × Fin 7) : GSem nD τ sig × ℕ × Fin 7 :=
  match x.2.1 with
  | none => (barCell x.1, 0, x.2.2)
  | some a => (xCell a x.2.2 x.1, 0, 0)

theorem tokOf_injective : Function.Injective tokOf := by
  rintro ⟨c, o, k⟩ ⟨c', o', k'⟩ h
  have hc := congrArg Prod.fst h
  have hk := congrArg (fun p => p.2.2) h
  cases o with
  | none =>
    cases o' with
    | none =>
      have h1 := Prod.mk.inj (kcell_injective hc)
      rw [show c = c' from h1.1, show k = k' from hk]
    | some a' => exact absurd (Prod.mk.inj (kcell_injective hc)).2 (fun e => by cases e)
  | some a =>
    cases o' with
    | none => exact absurd (Prod.mk.inj (kcell_injective hc)).2 (fun e => by cases e)
    | some a' =>
      have h1 := Prod.mk.inj (kcell_injective hc)
      have h2 := Prod.mk.inj (Option.some.inj h1.2)
      rw [show c = c' from h1.1, h2.1, show k = k' from h2.2]

def allToks : Finset (GSem nD τ sig × ℕ × Fin 7) := Finset.univ.map ⟨tokOf, tokOf_injective⟩

/-- The tokens of the duties on a device's own cells. -/
def cellToks (c : Dev nD) : sProp 𝕄 :=
  iprop((bigSep Finset.univ fun k => dutyTok ER (barCell c) 0 k) ∗ ownToks (F := F) 0 c ∗ ownToks (F := F) 1 c ∗ ownToks (F := F) 2 c ∗ ownToks (F := F) 3 c)

/-- A family over the barrier and the four uses. -/
theorem univ_uses (Φ : Option (Fin 4) → sProp 𝕄) :
    bigSep Finset.univ Φ = iprop(Φ none ∗ Φ (some 0) ∗ Φ (some 1) ∗ Φ (some 2) ∗ Φ (some 3)) :=
  bigSep_univ_eq_bigSepL [none, some 0, some 1, some 2, some 3] (by decide) (by decide) Φ

theorem allCells_eq (Φ : GSem nD τ sig → sProp 𝕄) :
    bigSep allCells Φ = bigSep Finset.univ fun c : Dev nD => bigSep Finset.univ fun x : CI => Φ (kcell (c, x)) := by
  unfold allCells; rw [bigSep_map, bigSep_univ_prod]; rfl

theorem allToks_eq :
    bigSep allToks (fun x => (dutyTok ER x.1 x.2.1 x.2.2 : sProp 𝕄)) = bigSep Finset.univ fun c : Dev nD => cellToks (F := F) c := by
  unfold allToks; rw [bigSep_map, bigSep_univ_prod]
  refine bigSep_congr fun c _ => ?_
  rw [bigSep_univ_prod, univ_uses]; rfl

/-! ## The tokens passed on -/

/-- A family over devices and peers' indices, each member at the peer instead. -/
theorem at_peers (Φ : Fin 7 → Dev nD → sProp 𝕄) :
    (bigSep Finset.univ fun c : Dev nD => bigSep Finset.univ fun k => Φ k c)
      = bigSep Finset.univ fun c : Dev nD => bigSep Finset.univ fun k => Φ k (peer k c) := by
  rw [bigSep_univ_comm, bigSep_univ_comm fun (c : Dev nD) k => Φ k (peer k c)]
  exact bigSep_congr fun k _ => bigSep_univ_equiv (peerEquiv k) (Φ k)

/-- Every token goes to the device that pays its duty. -/
theorem toks_passed : (bigSep Finset.univ fun c : Dev nD => cellToks (F := F) c) = bigSep Finset.univ fun c : Dev nD => payToks (F := F) c := by
  unfold cellToks payToks barToks peerToks
  simp only [bigSep_sep']
  rw [at_peers fun k c => (dutyTok ER (barCell c) 0 k : sProp 𝕄)]
  rw [← at_peers fun k c => (dutyTok ER (xCell 1 k c) 0 0 : sProp 𝕄), ← at_peers fun k c => (dutyTok ER (xCell 3 k c) 0 0 : sProp 𝕄)]
  rfl

/-! ## The credits -/

/-- What all devices owe one cell of device `c`, by one family of debts. -/
theorem debts_total (x : Fin 7 → CI) (n : ℕ) (O : Dev nD → CellTallies nD τ sig Unit) (c : Dev nD) (y : CI) :
    ∑ d : Dev nD, debts (fun k => kcell (peer k d, x k)) n up (O d) (kcell (c, y)) ()
      = (∑ k : Fin 7, if y = x k then n else 0) + ∑ d : Dev nD, O d (kcell (c, y)) () := by
  have hone (k : Fin 7) (d : Dev nD) : (tallyAt (kcell (peer k d, x k)) () n : CellTallies nD τ sig Unit) (kcell (c, y)) ()
      = if d = peer k c then (if y = x k then n else 0) else 0 := by
    rw [tallyAt_apply]
    by_cases hd : d = peer k c
    · rw [if_pos hd, hd, peer_peer]
      by_cases hy : y = x k
      · rw [if_pos hy, if_pos ⟨by rw [hy], rfl⟩]
      · rw [if_neg hy, if_neg fun h => hy (Prod.mk.inj (kcell_injective h.1)).2]
    · rw [if_neg hd, if_neg fun h => hd (by rw [(Prod.mk.inj (kcell_injective h.1)).1, peer_peer])]
  have hlist (l : List (Fin 7)) (d : Dev nD) : debts (fun k => kcell (peer k d, x k)) n l (O d) (kcell (c, y)) ()
      = (l.map fun k => if d = peer k c then (if y = x k then n else 0) else 0).sum + O d (kcell (c, y)) () := by
    induction l with
    | nil => exact (Nat.zero_add _).symm
    | cons k l ih =>
      unfold debts
      rw [Pi.add_apply, Finsupp.add_apply, ih, hone, List.map_cons, List.sum_cons]; omega
  have hup (f : Fin 7 → ℕ) : (up.map f).sum = ∑ k, f k := by
    rw [Fin.sum_univ_seven]; simp only [List.map_cons, List.map_nil, List.sum_cons, List.sum_nil]; omega
  rw [Finset.sum_congr rfl fun d _ => (hlist up d).trans (congrArg (· + _) (hup _)), Finset.sum_add_distrib, Finset.sum_comm]
  congr 1
  exact Finset.sum_congr rfl fun k _ => by rw [Finset.sum_ite_eq' Finset.univ (peer k c), if_pos (Finset.mem_univ _)]

/-- The units a cell of a device is owed at the start: seven on its barrier, a transfer's on each cell of arrivals. -/
def dueAt : CI → ℕ
  | none => 7
  | some (1, _) => N
  | some (3, _) => N
  | some _ => 0

theorem owed_total (c : Dev nD) (y : CI) : ∑ d : Dev nD, owedAll d (kcell (c, y)) () = dueAt y := by
  unfold owedAll owedRs owedAg
  rw [debts_total (fun _ => none), debts_total (fun k => some (1, k)), debts_total (fun k => some (3, k))]
  have hz : ∑ d : Dev nD, (0 : CellTallies nD τ sig Unit) (kcell (c, y)) () = 0 := Finset.sum_eq_zero fun _ _ => rfl
  rw [hz]
  have hne (a : Fin 4) (k : Fin 7) (a' : Fin 4) (h : a ≠ a') : (∑ k' : Fin 7, if (some (a, k) : CI) = some (a', k') then N else 0) = 0 :=
    Finset.sum_eq_zero fun k' _ => if_neg fun e => h (Prod.mk.inj (Option.some.inj e)).1
  have heq (a : Fin 4) (k : Fin 7) : (∑ k' : Fin 7, if (some (a, k) : CI) = some (a, k') then N else 0) = N := by
    rw [Finset.sum_congr rfl fun k' _ => show (if (some (a, k) : CI) = some (a, k') then N else 0) = if k = k' then N else 0 from
      if_congr ⟨fun e => (Prod.mk.inj (Option.some.inj e)).2, fun e => by rw [e]⟩ rfl rfl, Finset.sum_ite_eq, if_pos (Finset.mem_univ _)]
  have hbar (a : Fin 4) (k : Fin 7) : (∑ _k' : Fin 7, if (some (a, k) : CI) = none then 1 else 0) = 0 :=
    Finset.sum_eq_zero fun _ _ => if_neg fun e => by cases e
  match y with
  | none =>
    have hn (a : Fin 4) : (∑ k' : Fin 7, if (none : CI) = some (a, k') then N else 0) = 0 := Finset.sum_eq_zero fun k' _ => if_neg fun e => by cases e
    rw [hn, hn]; rfl
  | some (0, k) => rw [hbar, hne _ _ _ (by decide), hne _ _ _ (by decide)]; rfl
  | some (1, k) => rw [hbar, heq, hne _ _ _ (by decide), Nat.zero_add]; rfl
  | some (2, k) => rw [hbar, hne _ _ _ (by decide), hne _ _ _ (by decide)]; rfl
  | some (3, k) => rw [hbar, heq, hne _ _ _ (by decide), Nat.zero_add, Nat.zero_add]; rfl

theorem credit_cell (c : Dev nD) (y : CI) :
    tallyOn (kcell (c, y)) (launchCredit (Pipeline.owing owedAll) 0 (kcell (c, y))) = (tallyAt (kcell (c, y)) () (dueAt y) : CellTallies nD τ sig Unit) := by
  unfold tallyAt; refine congrArg _ (Finsupp.ext fun u => ?_); cases u
  rw [Pipeline.launchCredit_owing, Finsupp.single_eq_same, owed_total]

/-- The credits dealt at the start give each device its own. -/
theorem credits_dealt (c : Dev nD) : (Pipeline.launchCred owedAll c : sProp 𝕄) ⊢ credits (F := F) c := by
  unfold Pipeline.launchCred
  refine (bigSep_subset (Finset.subset_univ (Finset.univ.map ⟨csem, csem_injective⟩))).trans ?_
  rw [bigSep_map]
  refine (Entails.of_eq (bigSep_congr (Ψ := fun y : CI => (cred (tallyAt (kcell (c, y)) () (dueAt y)) : sProp 𝕄)) fun y _ => congrArg cred (credit_cell c y))).trans ?_
  rw [univ_cells, univ_arms]
  unfold credits arrivals
  iintro ⟨HB, -, H1, -, H3⟩
  isplitl [HB]; · iexact HB
  isplitl [H1]; · iexact H1
  iexact H3

end Cert.KernelIdeal.Deal

end
-- ==== Proof.Launch.lean ====
/- The whole program on the eight devices, for any float values: it runs to the end, every device's input array is kept, every
   semaphore ends at zero, and every device's result array holds what the exchange computes. -/
module

public import proofs.«01_k».proof.Proof.Deal
public import Idealize.ShloMosaic.Lib.Pipeline.CollectiveSegs

@[expose] public section

noncomputable section

namespace Cert.KernelIdeal.Launch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Mesh Cert.KernelIdeal.Program Cert.KernelIdeal.Contents Cert.KernelIdeal.Cells Cert.KernelIdeal.Steps
open Cert.KernelIdeal.Parts Cert.KernelIdeal.Exchange Cert.KernelIdeal.Deal

variable {F : FTy → Type} [FloatOps F]

local notation "𝕄" => MT nD τ sig Unit (Elt F) ℕ UU ℕ

variable (m : (ℓ : Loc nD τ sig) → Buf (Elt F) ℓ) (ρ : Dev nD → PrngReg)

/-- The memory at the start: any contents, every semaphore at zero. -/
def s₀ : MemSt nD τ sig (Elt F) := ⟨m, fun _ => 0, ρ⟩

/-- The input of each device, as its kernel finds it. -/
def xIn (c : Dev nD) : Vec F S256x256 .f32 := (win0_0.blk (0 : Fin 1)).view.read (Elt F) ((s₀ m ρ).mem ((c : Thread nD τ).loc main_arg0))

/-! ## The kernel's one grid point -/

/-- What device `c` is dealt at the start. -/
def start (c : Dev nD) : sProp 𝕄 :=
  iprop(∃ K : Dev nD × CI → ℕ, env (xIn m ρ) K ∗ places (F := F) c ∗ payToks (F := F) c ∗ credits (F := F) c)

/-- Before the kernel's body, and after it. -/
def Φ₀ (c : Dev nD) : sProp 𝕄 := iprop(start m ρ c ∗ scratches (F := F) c)
def Φ₁ (c : Dev nD) : sProp 𝕄 := iprop(scratches (F := F) c ∗ zeroed (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m ρ c
    | ⟨1, _⟩ => outArr (xIn m ρ) c
  Φ t := match t with
    | ⟨0, _⟩ => Φ₀ m ρ c
    | ⟨_ + 1, _⟩ => Φ₁ (F := F) c
  q _ := fullShare
  owed t := match t with
    | ⟨0, _⟩ => owedAll c
    | ⟨_ + 1, _⟩ => 0

theorem fetch_0 (t : Fin cfg0.N) : (cfg0.win (0 : Fin 2)).fetch t = true := by rw [fin_N0 t]; rfl

/-- The body's precondition and postcondition, as the grid point states them. -/
def pointPre (c : Dev nD) : sProp 𝕄 :=
  iprop(Φ₀ m ρ c ∗ (dats m ρ 0 c).owesAt () t0_0.castSucc
    ∗ (∃ d, owns (c : Thread nD τ) inM fullShare ((dats m ρ 0 c).before (0 : Fin 2) t0_0 d))
    ∗ (∃ d, owns (c : Thread nD τ) outM fullShare ((dats m ρ 0 c).before (1 : Fin 2) t0_0 d)))
def pointPost (c : Dev nD) : sProp 𝕄 :=
  iprop(Φ₁ (F := F) c ∗ (dats m ρ 0 c).owesAt () t0_0.succ
    ∗ owns (c : Thread nD τ) inM fullShare (xIn m ρ c) ∗ owns (c : Thread nD τ) outM fullShare (outArr (xIn m ρ) c))

theorem before_in (c : Dev nD) (d) : (dats m ρ 0 c).before (0 : Fin 2) t0_0 d = xIn m ρ c := by
  unfold Dat.before; rw [if_pos (fetch_0 t0_0)]; rfl

/-- The body does what the grid point asks. -/
theorem point (c : Dev nD) :
    pointPre m ρ c ⊢ run c (cc0_body (F := F) inM (Memref.isWhole_whole _) outM (Memref.isWhole_whole _) stM (Memref.isWhole_whole _) rsM (Memref.isWhole_whole _)
      agM (Memref.isWhole_whole _) cc0_scratch3 cc0_scratch4 cc0_scratch5 cc0_scratch6) (fun _ => pointPost m ρ c) := by
  rw [body_eq]; unfold run
  simp only [wp_deviceId, before_in]
  unfold pointPre Φ₀ start Dat.owesAt Pipeline.owesWithin
  simp only [before_in]
  rw [show (dats m ρ 0 c).owed t0_0.castSucc = owedAll c from rfl]
  iintro ⟨⟨⟨%K, He, Hpl, Htk, Hcr⟩, Hscr⟩, ⟨%W, -, HO⟩, ⟨%d0, Hin⟩, ⟨%d1, Hout⟩⟩
  iapply (exchange (xIn m ρ) K c) $$ [He Hpl Htk Hcr Hscr HO Hin Hout]
  · isplitl [He]; · iexact He
    unfold before owing some_
    isplitl [HO]; · iexists W; iexact HO
    isplitl [Hpl]; · iexact Hpl
    isplitl [Htk]; · iexact Htk
    isplitl [Hcr]; · iexact Hcr
    isplitl [Hin]; · iexact Hin
    isplitl [Hout]; · iexists _; iexact Hout
    iexact Hscr
  unfold after owing pointPost Φ₁ Dat.owesAt Pipeline.owesWithin
  rw [show (dats m ρ 0 c).owed t0_0.succ = 0 from rfl]
  iintro ⟨⟨%W', HO⟩, Hin, Hout, Hscr, Hz⟩
  isplitl [Hscr Hz]
  · isplitl [Hscr] <;> iassumption
  isplitl [HO]
  · iexists W'
    isplitr; · ipureintro; exact fun _ _ => Or.inl trivial
    iexact HO
  isplitl [Hin] <;> iassumption

set_option maxRecDepth 65536 in
/-- The same, in the form the launch takes. -/
theorem body_obligation (c : Dev nD) : BodyObligation (dats (F := F) m ρ 0 c) (defs₀ (F := F)) 𝒱₀ () Set.univ := fun t => by
  rw [fin_N0 t]
  rw [bigSep_W0, bigSep_W0]
  show pointPre m ρ c ⊢ wp frame (wpE (defs₀ (F := F)) 𝒱₀ (c : Thread nD τ) none) Set.univ
    (cc0_body (F := F) inM (Memref.isWhole_whole _) outM (Memref.isWhole_whole _) stM (Memref.isWhole_whole _) rsM (Memref.isWhole_whole _)
      agM (Memref.isWhole_whole _) cc0_scratch3 cc0_scratch4 cc0_scratch5 cc0_scratch6) (fun _ => pointPost m ρ c)
  exact point m ρ c

/-! ## The start -/

/-- The transfer semaphores are the kernel's own. -/
theorem ownSemFacts : Pipeline.OwnSemFacts cfg0.spec osem := by decide

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf allCells allToks)

/-- What the minted resources give device `c`. -/
def minted (c : Dev nD) : sProp 𝕄 :=
  iprop((bigSep Finset.univ fun x : CI => roundState ER (Rd (xIn m ρ)) (kcell (c, x)) 0)
    ∗ (places (F := F) c ∗ bigSep Finset.univ fun x : CI => reached ER (kcell (c, x)) 0) ∗ cellToks (F := F) c)

/-- What device `c` has once the cells are under the schedule and the tokens passed on. -/
def ready (c : Dev nD) : sProp 𝕄 :=
  iprop(∃ K : Dev nD × CI → ℕ, ((bigSep Finset.univ fun ck => cellInv ER (Rd (xIn m ρ)) (K ck) (kcell ck)) ∗ bigSep Finset.univ fun ck => reached ER (kcell ck) 0)
    ∗ places (F := F) c ∗ payToks (F := F) c)

theorem mint : BI.own (ER (initOf allCells allToks)) ⊢ (|==> bigSep Finset.univ (minted m ρ) : sProp 𝕄) := by
  iintro HX
  imod (Rounds.fund ER (Rd (xIn m ρ)) allCells allToks) $$ HX with ⟨Hst, Hr, Hat, Htok⟩
  imodintro
  ihave Hst := (Entails.of_eq (allCells_eq fun g => roundState ER (Rd (xIn m ρ)) g 0)) $$ Hst
  ihave Hat := (Entails.of_eq (allCells_eq fun g => atPos ER g 0 ∅ 0)) $$ Hat
  ihave Hr := (Entails.of_eq (allCells_eq fun g => reached ER g 0)) $$ Hr
  ihave Htok := (Entails.of_eq (allToks_eq (F := F))) $$ Htok
  unfold minted places; simp only [bigSep_sep']
  isplitl [Hst]; · iexact Hst
  isplitl [Hat Hr]
  · isplitl [Hat] <;> iassumption
  iexact Htok

/-- The barrier is the one semaphore the launch leaves standing. -/
theorem standing_eq (c : Dev nD) : (unscopedSems0 c : sProp 𝕄) = semVal (barCell c) 0 := by
  unfold unscopedSems0; rw [bigSep_eq_bigSepL_of_eq [SemLoc.reg barrier0] (by decide) (by decide)]; rfl

/-- The cells at zero are the kernel's own semaphores and the barrier. -/
theorem zeroed_eq (c : Dev nD) :
    zeroed (F := F) c = iprop(unscopedSems0 c ∗ Pipeline.ownSems0 (Ix := Unit) (Name := ℕ) (U := UU) (Lvl := ℕ) (Val := Elt F) (τ := τ) osem c) := by
  unfold zeroed; rw [univ_cells, standing_eq]; rfl

/-- Each device's cells go under the schedule. -/
theorem core_alloc (c : Dev nD) :
    iprop(Pipeline.ownSems0 (Ix := Unit) (Name := ℕ) (U := UU) (Lvl := ℕ) (Val := Elt F) (τ := τ) osem c ∗ unscopedSems0 c ∗ minted m ρ c)
      ⊢ |={Set.univ}=> iprop((bigSep Finset.univ fun x : CI => iprop(∃ κ : ℕ, cellInv ER (Rd (xIn m ρ)) κ (kcell (c, x))))
          ∗ (places (F := F) c ∗ bigSep Finset.univ fun x : CI => reached ER (kcell (c, x)) 0) ∗ cellToks (F := F) c) := by
  unfold minted
  iintro ⟨Hos, Hus, Hst, Hat, Htok⟩
  ihave Hv := (Entails.of_eq (zeroed_eq (F := F) c).symm) $$ [Hos Hus]
  · isplitl [Hus] <;> iassumption
  imod (show iprop(zeroed (F := F) c ∗ bigSep Finset.univ fun x : CI => roundState ER (Rd (xIn m ρ)) (kcell (c, x)) 0)
      ⊢ (|={Set.univ}=> bigSep Finset.univ fun x : CI => iprop(∃ κ : ℕ, cellInv ER (Rd (xIn m ρ)) κ (kcell (c, x))) : sProp 𝕄) from by
        unfold zeroed; rw [← bigSep_sep']
        exact (bigSep_mono fun x _ => (Rounds.body_intro ER (Rd (xIn m ρ)) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

/-- Every device learns of every cell, and has the tokens of the duties it pays. -/
theorem regroup :
    (bigSep Finset.univ fun c : Dev nD => iprop((bigSep Finset.univ fun x : CI => iprop(∃ κ : ℕ, cellInv ER (Rd (xIn m ρ)) κ (kcell (c, x))))
          ∗ (places (F := F) c ∗ bigSep Finset.univ fun x : CI => reached ER (kcell (c, x)) 0) ∗ cellToks (F := F) c) : sProp 𝕄)
      ⊢ bigSep Finset.univ (ready m ρ) := by
  simp only [bigSep_sep']
  rw [← bigSep_univ_prod (fun ck : Dev nD × CI => iprop(∃ κ : ℕ, cellInv ER (Rd (xIn m ρ)) κ (kcell ck))),
    ← bigSep_univ_prod (fun ck : Dev nD × CI => (reached ER (kcell ck) 0 : sProp 𝕄)), toks_passed]
  iintro ⟨HI, ⟨Hat, #HR⟩, Htok⟩
  ihave HK := (BI.bigSep_exists_pi Finset.univ (fun (ck : Dev nD × CI) (κ : ℕ) => (cellInv ER (Rd (xIn m ρ)) κ (kcell ck) : sProp 𝕄))) $$ HI
  icases HK with ⟨%K, #HI⟩
  iapply (BI.bigSep_with_persistent (S := Finset.univ)
    (R := iprop((bigSep Finset.univ fun ck => cellInv ER (Rd (xIn m ρ)) (K ck) (kcell ck)) ∗ bigSep Finset.univ fun ck => (reached ER (kcell ck) 0 : sProp 𝕄)))
    (Φ := fun c : Dev nD => iprop(places (F := F) c ∗ payToks (F := F) c)) (Ψ := ready m ρ)
    fun c _ => by unfold ready; iintro H; iexists K; iexact H)
  isplitr
  · isplitl; · iexact HI
    iexact HR
  rw [bigSep_sep']
  isplitl [Hat] <;> iassumption

theorem glob :
    (bigSep Finset.univ fun c => iprop(Pipeline.ownSems0 (Ix := Unit) (Name := ℕ) (U := UU) (Lvl := ℕ) (Val := Elt F) (τ := τ) osem c ∗ unscopedSems0 c ∗ minted m ρ c) : sProp 𝕄)
      ⊢ |={Set.univ}=> bigSep Finset.univ (ready m ρ) :=
  ((bigSep_mono fun c _ => core_alloc m ρ c).trans (bigSep_fupd _ _)).trans (BI.fupd_mono (regroup m ρ))

theorem start_intro (c : Dev nD) :
    iprop(Pipeline.unscopedRestP Pipeline.Prefetch.none cfg0.spec c (fun b => m ((c : Thread nD τ).loc b)) ∗ levAts L lv
        ∗ Pipeline.launchCred owedAll c ∗ prngReg c (ρ c) ∗ ready m ρ c)
      ⊢ |={Set.univ}=> iprop(start m ρ c ∗ emp) := by
  iintro ⟨-, Hlev, Hcr, -, Hre⟩
  ihave Hc := (credits_dealt (F := F) c) $$ Hcr
  unfold ready
  icases Hre with ⟨%K, ⟨HI, HR⟩, Hpl, Htk⟩
  imodintro
  unfold start env
  isplitl
  · iexists K
    isplitl [HI HR Hlev]
    · isplitl [HI]; · iexact HI
      isplitl [HR] <;> iassumption
    isplitl [Hpl]; · iexact Hpl
    isplitl [Htk] <;> iassumption
  · iempintro

/-- A buffer at some contents, with the contents named once or twice. -/
theorem some_buf (c : Dev nD) (b : Ref sig .tc) :
    (iprop(∃ f : Buf (Elt F) ((c : Thread nD τ).loc b), ((c : Thread nD τ).loc b) ↦{fullShare} f) : sProp 𝕄)
      = iprop(∃ A : Buf (Elt F) ((c : Thread nD τ).loc b), ∃ f : Buf (Elt F) ((c : Thread nD τ).loc b), ⌜f = A⌝ ∗ (((c : Thread nD τ).loc b) ↦{fullShare} f)) := by
  have h1 : (iprop(∃ f : Buf (Elt F) ((c : Thread nD τ).loc b), ((c : Thread nD τ).loc b) ↦{fullShare} f) : sProp 𝕄)
      ⊢ iprop(∃ A : Buf (Elt F) ((c : Thread nD τ).loc b), ∃ f : Buf (Elt F) ((c : Thread nD τ).loc b), ⌜f = A⌝ ∗ (((c : Thread nD τ).loc b) ↦{fullShare} f)) := by
    iintro ⟨%f, H⟩; iexists f, f; isplitr; · (ipureintro; rfl)
    iexact H
  have h2 : (iprop(∃ A : Buf (Elt F) ((c : Thread nD τ).loc b), ∃ f : Buf (Elt F) ((c : Thread nD τ).loc b), ⌜f = A⌝ ∗ (((c : Thread nD τ).loc b) ↦{fullShare} f)) : sProp 𝕄)
      ⊢ iprop(∃ f : Buf (Elt F) ((c : Thread nD τ).loc b), ((c : Thread nD τ).loc b) ↦{fullShare} f) := by
    iintro ⟨%A, %f, -, H⟩; iexists f; iexact H
  exact Entails.antisymm h1 h2

/-- The scratch buffers, in both forms. -/
theorem scratches_eq (c : Dev nD) : (Pipeline.scopedRest cfg0.spec c : sProp 𝕄) = scratches (F := F) c := by
  rw [scopedRest0_eq]
  unfold scratches some_
  simp only [owns_whole_eq]
  rw [some_buf c cc0_scratch0, some_buf c cc0_scratch1, some_buf c cc0_scratch2]; rfl

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratches_eq]
  unfold Φ₀
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scratches_eq]
  unfold Φ₁; rw [zeroed_eq]
  iintro ⟨Hr, HzB, HzO⟩
  isplitl [HzB]; · iexact HzB
  isplitl [HzO] <;> iassumption

theorem above_all (c : Dev nD) : Above 0 (owedAll c) :=
  above_debts 0 (fun _ => none) (fun k => peer k c) 1 (fun _ => Nat.one_pos) up _
    (above_debts 0 (fun k => some (1, k)) (fun k => peer k c) N (fun _ => Nat.succ_pos 1) up _ (above_ag 0 (by decide) c))

theorem waits (c : Dev nD) : (levAts L lv : sProp 𝕄) ⊢ Pipeline.cellsWaits cfgs (dats m ρ) () 0 c :=
  Pipeline.cellsWaits_intro cfgs (dats m ρ) () 0 c fun w s t =>
    mayWait c _ _ (by
      have hk : lvOf (kind (SemLoc.dma ((cfg0.win w).sem s))) = 0 := by fin_cases w <;> fin_cases s <;> decide
      rcases t with ⟨_ | _, ht⟩
      · exact hk.symm ▸ above_all c
      · exact above_zero _)

/-! ## The run -/

def finalA (c : Dev nD) (w : Fin cfg0.W) : Buf (Elt F) ((cfg0.win w).arr.view.loc (c : Thread nD τ)) := (dats m ρ 0 c).arrAt w cfg0.N

/-- Every device's arrays hold their final contents. -/
def Final : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every semaphore at zero the program ends, with the final contents in every array and every semaphore
    at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owedAll) (howed₀ := fun _ => rfl) (howedN := fun _ => rfl)
    (L := L) (lv := lv) (hL := L_of_ne) (hwaits := waits m ρ)
    (G := minted m ρ) (G' := ready m ρ) (u₀ := u₀)
    (hu₀ := by
      unfold u₀
      iintro Hu
      ihave H := (ownU_pair _ _) $$ Hu
      icases H with ⟨HP, HX⟩
      imod (mint m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array holds what it held. -/
theorem finalA_in (c : Dev nD) : finalA m ρ c (0 : Fin 2) = (s₀ m ρ).mem (win0_0.arr.view.loc (c : Thread nD τ)) :=
  (dats (F := F) m ρ 0 c).arrAt_in (0 : Fin 2) rfl _

end Cert.KernelIdeal.Launch

end
-- ==== Proof.Value.lean ====
/- What the run leaves behind, and what it is over the extended reals: every device's result is, entry by entry, the sum
   of the eight devices' inputs. -/
module

public import proofs.«01_k».proof.Proof.Launch
public import Idealize.ShloMosaic.Lib.Pipeline.ValueKit

@[expose] public section

noncomputable section

namespace Cert.KernelIdeal.Value

open Idealize.ShloMosaic Idealize.ShloMosaic.TcCoe Idealize.SL.Sem
open Cert.KernelIdeal.Gen Cert.KernelIdeal.Mesh Cert.KernelIdeal.Program Cert.KernelIdeal.Contents Cert.KernelIdeal.Launch

/-! ## The arrays after the run, for any float values -/

section Arrays

variable {F : FTy → Type} [FloatOps F] (m : (ℓ : Loc nD τ sig) → Buf (Elt F) ℓ) (ρ : Dev nD → PrngReg)

/-- The kernel's one block of the input is the whole input array. -/
theorem xIn_eq (c : Dev nD) : xIn m ρ c = m ((c : Thread nD τ).loc main_arg0) := by
  have hz : (fun a => win0_0.index (0 : Fin 1) a * main_arg0.ty.shape.size a) = fun _ => 0 := by
    funext a; fin_cases a <;> rfl
  exact Memref.read_access_unit_zero (Elt F) main_arg0 hz (fun a => by fin_cases a <;> decide) _

/-- The result array is what the exchange computes from the devices' inputs. -/
theorem finalA_out (c : Dev nD) : finalA m ρ c (1 : Fin 2) = outArr (xIn m ρ) c :=
  (dats m ρ 0 c).arrAt_eq_of_after_last (1 : Fin 2) t0_0 (by decide +kernel) _ fun _ => rfl

end Arrays

/-! ## Over the extended reals -/

variable (X : Dev nD → Vec Ideal S256x256 .f32)

/-- Narrowing changes no value. -/
theorem sentTo_ideal (c : Dev nD) (b : Fin 8) (j : S32x256.Idx) : sentTo X c b j = X c ((block b).rect.emb j) := by
  unfold sentTo rowsOf narrowed k0_pay1
  simp only [shapeCast_self]; rfl

/-- Adding received rows, entry by entry. -/
theorem addIn_ideal (acc : FVec Ideal S32x256 .f32) (v : Vec Ideal S32x256 .bf16) (j : S32x256.Idx) :
    addIn acc v j = acc j + v j := rfl

/-- Adding up received rows one after another adds the sum of their entries. -/
theorem foldl_addIn (l : List (Fin 7)) (v : Fin 7 → Vec Ideal S32x256 .bf16) (acc : FVec Ideal S32x256 .f32) (j : S32x256.Idx) :
    l.foldl (fun acc k => addIn acc (v k)) acc j = acc j + (l.map fun k => (v k j : EReal)).sum := by
  induction l generalizing acc with
  | nil => exact (add_zero (acc j : EReal)).symm
  | cons k l ih =>
    rw [List.foldl_cons, ih, addIn_ideal, List.map_cons, List.sum_cons]
    exact add_assoc (acc j : EReal) _ _

/-- A sum over a device and its seven peers is a sum over all devices. -/
theorem sum_around (c : Dev nD) (f : Dev nD → EReal) : f c + ∑ k : Fin 7, f (peer k c) = ∑ d : Dev nD, f d := by
  rw [← (around_bij c).sum_comp f, Fintype.sum_option]; rfl

/-- The sum a device forms is that of all devices' entries in its row block. -/
theorem total_ideal (c : Dev nD) (j : S32x256.Idx) :
    total X c j = ∑ d : Dev nD, (X d ((block (gray c)).rect.emb j) : EReal) := by
  unfold total
  rw [foldl_addIn, ← sum_around c]
  congr 1
  · unfold k0_pay2; rw [shapeCast_self]; rfl
  · rw [← List.sum_toFinset _ (by decide : down.Nodup), show down.toFinset = (Finset.univ : Finset (Fin 7)) from by decide]
    exact Finset.sum_congr rfl fun k _ => sentTo_ideal X (peer k c) (gray c) j

/-- Every row block of the result holds the sum formed by its owner. -/
theorem outBlk_ideal (c : Dev nD) (t : Option (Fin 7)) : outBlk X c t = total X (around c t) := by
  cases t with
  | none => rfl
  | some k =>
    show extf .f32 (narrow (total X (peer k c))) bitsLt_bf16_f32 = total X (peer k c)
    unfold narrow; rw [shapeCast_self]; rfl

/-- Every device's result is the sum of the eight inputs. -/
theorem outArr_ideal (c : Dev nD) (i : S256x256.Idx) : outArr X c i = ∑ d : Dev nD, (X d i : EReal) := by
  obtain ⟨t, ht⟩ := (rowOf_bij c).2 (blockIx i)
  have h : outArr X c i = rowsOf (rowOf c t) (outArr X c) (blockPos i) := by
    unfold rowsOf; rw [ht, emb_blockPos]
  rw [h, outArr, rowsOf_glue, outBlk_ideal, total_ideal, show gray (around c t) = blockIx i from ht, emb_blockPos]

end Cert.KernelIdeal.Value

end
-- ==== Proof.Reference.lean ====
/- What the reference computes over the extended reals: entry `(r, l)` of its result is the sum over the eight blocks of 256
   rows of entry `(r, l)` of the block. -/
module

public import proofs.«01_k».proof.Proof.Gen.ReferenceIdeal.Run
public import Idealize.ShloMosaic.Lib.Layout
public import Idealize.ShloMosaic.Lib.IdealHost
public import Idealize.ShloMosaic.Lib.Pointwise

@[expose] public section

noncomputable section

namespace Cert.ReferenceIdeal.Sum

open Idealize.ShloMosaic Idealize.ShloMosaic.TcCoe Idealize.SL.Sem
open Cert.ReferenceIdeal.Gen

/-- The reference's result as a function of its argument. -/
def value (A : FVec Ideal S2048x256 .f32) : FVec Ideal S256x256 .f32 :=
  Host.reduceAdd (shapeCast _ A shapeCasts_S2048x256_S8x256x256) (constant S_ .f32 0x00000000#32) reducesTo_S8x256x256_S256x256_d0 h_S_

/-- The `d`-th block of 256 rows of the argument, which is what device `d` holds of it. -/
def part (A : FVec Ideal S2048x256 .f32) (d : Fin 8) : FVec Ideal S256x256 .f32 := Layout.block ⟨2, ![256, 256]⟩ ⟨2, ![2048, 256]⟩ 0 8 d A

/-- Regrouping the rows eight blocks of 256 leaves the entries where they are. -/
theorem regrouped (A : FVec Ideal S2048x256 .f32) (d : Fin 8) (i : S256x256.Idx) (k : S8x256x256.Idx)
    (h0 : (k 0).val = d.val) (h1 : (k 1).val = (i 0).val) (h2 : (k 2).val = (i 1).val) :
    shapeCast S8x256x256 A shapeCasts_S2048x256_S8x256x256 k = part A d i := by
  unfold part
  rw [Layout.block_apply]
  refine shapeCast_apply A _ k _ ?_
  rw [Shape.rowMajor_val_two, Shape.rowMajor_val_three, (Layout.idx_rows_val _ d i).1, (Layout.idx_rows_val _ d i).2, h0, h1, h2]
  show (d.val * 256 + (i 0).val) * 256 + (i 1).val = _
  rfl

/-- The reference adds up the eight blocks. -/
theorem value_apply (A : FVec Ideal S2048x256 .f32) (i : S256x256.Idx) : value A i = ∑ d : Fin 8, (part A d i : EReal) := by
  unfold value
  rw [ValueIdx.hostReduceAdd_apply, Ideal.hostReduceAdd_r3_a0]
  rw [show (constant (F := Ideal) S_ .f32 0x00000000#32 (Shape.Idx.first h_S_) : EReal) = 0 from Ideal.ofBits_zero_f32, zero_add]
  exact Finset.sum_congr rfl fun d _ => regrouped A d i _ rfl rfl rfl

end Cert.ReferenceIdeal.Sum

end
-- ==== Proof.lean ====
/- The claims of Defs.lean. The kernel is an all-reduce by eight devices. Proof/Launch.lean runs it for any float values, which
   gives its frame at the machine's floats and over the extended reals; Proof/Value.lean reads its result over the extended
   reals as the sum of the devices' inputs; Proof/Reference.lean reads the reference's result as the sum of its blocks. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.ShloMosaic.TcCoe Idealize.SL.Sem

set_option maxRecDepth 20000 in
/-- The two printings of the kernel have the same body, -/
theorem bodies_eq : Cert.Kernel.defs₀ (F := Bits) = Cert.KernelIdeal.defs₀ (F := Bits) := by
  refine congrArg Defs.onTc (funext fun l => funext fun x => ?_)
  match l, x with
  | 0, (t, s) => exact rfl

/-- and so the same procedures. -/
theorem defs_eq : Cert.Kernel.defs (F := Bits) = Cert.KernelIdeal.defs (F := Bits) := congrArg (Pipeline.defs _) bodies_eq

/-- The kernel at the machine's floats: it runs to the end, keeps its argument, and leaves every semaphore at zero. -/
theorem frame_kernel : Cert.quiescent_Kernel := fun m ρ _ => by
  rw [defs_eq]
  exact (θ_run Cert.KernelIdeal.defs _ _).mono
    (fun _ h => ⟨fun c => (h.1 c (0 : Fin 2)).trans (Cert.KernelIdeal.Launch.finalA_in m ρ c), h.2⟩)
    (Cert.KernelIdeal.Launch.run_main (F := Bits) m ρ)

/-- The same over the extended reals. -/
theorem frame_kernelIdeal : Cert.quiescent_KernelIdeal := fun m ρ _ =>
  (θ_run Cert.KernelIdeal.defs _ _).mono
    (fun _ h => ⟨fun c => (h.1 c (0 : Fin 2)).trans (Cert.KernelIdeal.Launch.finalA_in m ρ c), h.2⟩)
    (Cert.KernelIdeal.Launch.run_main (F := Ideal) m ρ)

/-- The reference runs to the end and keeps its argument; it has no semaphores. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- If every device holds its block of the reference's argument, then every device's result is the reference's. -/
theorem results_agree (m : (ℓ : Loc Cert.KernelIdeal.nD Cert.KernelIdeal.τ Cert.KernelIdeal.sig) → Buf (Elt Ideal) ℓ)
    (ρ : Dev Cert.KernelIdeal.nD → PrngReg) (A : FVec Ideal Cert.ReferenceIdeal.S2048x256 .f32)
    (h : ∀ c : Dev Cert.KernelIdeal.nD, m ((c.tc : Thread Cert.KernelIdeal.nD Cert.KernelIdeal.τ).loc Cert.KernelIdeal.main_arg0)
      = Cert.ReferenceIdeal.Sum.part A c) (c : Dev Cert.KernelIdeal.nD) :
    Cert.KernelIdeal.Launch.finalA m ρ c (1 : Fin 2) = Cert.ReferenceIdeal.Sum.value A := by
  rw [Cert.KernelIdeal.Value.finalA_out]
  funext i
  refine (Cert.KernelIdeal.Value.outArr_ideal _ c i).trans ((Finset.sum_congr rfl fun d _ => ?_).trans
    (Cert.ReferenceIdeal.Sum.value_apply A i).symm)
  exact congrFun ((Cert.KernelIdeal.Value.xIn_eq m ρ d).trans (h d)) i

/-- The kernel and the reference compute the same function over the extended reals. -/
theorem algebraic : Cert.algebraic_KernelIdeal_ReferenceIdeal := fun m ρ m' ρ' _ h =>
  ⟨Cert.ReferenceIdeal.Sum.value (m' (((0 : Dev Cert.ReferenceIdeal.nD).tc : Thread Cert.ReferenceIdeal.nD Cert.ReferenceIdeal.τ).loc Cert.ReferenceIdeal.main_arg0)),
    (θ_run Cert.KernelIdeal.defs _ _).mono
      (fun _ r c => ⟨(r.1 c (1 : Fin 2)).trans (results_agree m ρ _ h c),
        (r.1 c (0 : Fin 2)).trans (Cert.KernelIdeal.Launch.finalA_in m ρ c)⟩)
      (Cert.KernelIdeal.Launch.run_main (F := Ideal) m ρ),
    (θ_run Cert.ReferenceIdeal.defs _ _).mono (fun _ r => r 0) (Cert.ReferenceIdeal.Value.run (F := Ideal) m' ρ')⟩

/-- Everything the certificate claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
